-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  bcast_S_S10000x10000 : S_.BroadcastsInDim S10000x10000 (![] : Fin 0 → Fin S10000x10000.rank)
  bcast_S_S128x64 : S_.BroadcastsInDim S128x64 (![] : Fin 0 → Fin S128x64.rank)
  bcast_S_S64 : S_.BroadcastsInDim S64 (![] : Fin 0 → Fin S64.rank)
  bcast_S_S64x16 : S_.BroadcastsInDim S64x16 (![] : Fin 0 → Fin S64x16.rank)
  bcast_S_S16 : S_.BroadcastsInDim S16 (![] : Fin 0 → Fin S16.rank)

variable [Facts]

def fn_part1 {F : FTy → Type} [FloatOps F] (main_arg6 : FVec F S16 .f32) (main_v2 : IVec S10000x128 1) (main_v5 : IVec S10000x10000 1) (main_v8 : IVec S10000x10000 1) (main_v11 : IVec S128x64 1) (main_v14 : IVec S64 1) (main_v17 : IVec S64x16 1) : IVec S10000x128 1 × IVec S10000x10000 1 × IVec S10000x10000 1 × IVec S128x64 1 × IVec S64 1 × IVec S64x16 1 × IVec S16 1 :=
  let main_v18 : FVec F S16 .f32 := Host.absf main_arg6
  let main_cst_5 : FVec F S_ .f32 := constant S_ .f32 0x7F800000#32
  let main_v19 : FVec F S16 .f32 := broadcastInDim S16 ![] bcast_S_S16 main_cst_5
  let main_v20 : IVec S16 1 := cmpf .olt main_v18 main_v19
  (main_v2, main_v5, main_v8, main_v11, main_v14, main_v17, main_v20)

def fn {F : FTy → Type} [FloatOps F] (main_arg0 : FVec F S10000x128 .f32) (main_arg1 : FVec F S10000x10000 .f32) (main_arg2 : FVec F S10000x10000 .f32) (main_arg3 : FVec F S128x64 .f32) (main_arg4 : FVec F S64 .f32) (main_arg5 : FVec F S64x16 .f32) (main_arg6 : FVec F S16 .f32) : IVec S10000x128 1 × IVec S10000x10000 1 × IVec S10000x10000 1 × IVec S128x64 1 × IVec S64 1 × IVec S64x16 1 × IVec S16 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S10000x10000 .f32 := Host.absf main_arg1
  let main_cst_0 : FVec F S_ .f32 := constant S_ .f32 0x7F800000#32
  let main_v4 : FVec F S10000x10000 .f32 := broadcastInDim S10000x10000 ![] bcast_S_S10000x10000 main_cst_0
  let main_v5 : IVec S10000x10000 1 := cmpf .olt main_v3 main_v4
  let main_v6 : FVec F S10000x10000 .f32 := Host.absf main_arg2
  let main_cst_1 : FVec F S_ .f32 := constant S_ .f32 0x7F800000#32
  let main_v7 : FVec F S10000x10000 .f32 := broadcastInDim S10000x10000 ![] bcast_S_S10000x10000 main_cst_1
  let main_v8 : IVec S10000x10000 1 := cmpf .olt main_v6 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64x16 .f32 := Host.absf main_arg5
  let main_cst_4 : FVec F S_ .f32 := constant S_ .f32 0x7F800000#32
  let main_v16 : FVec F S64x16 .f32 := broadcastInDim S64x16 ![] bcast_S_S64x16 main_cst_4
  let main_v17 : IVec S64x16 1 := cmpf .olt main_v15 main_v16
  fn_part1 (F := F) main_arg6 main_v2 main_v5 main_v8 main_v11 main_v14 main_v17
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x64 : Shape := ⟨2, ![1, 64]⟩
abbrev S1x16 : Shape := ⟨2, ![1, 16]⟩
abbrev S10000x16 : Shape := ⟨2, ![10000, 16]⟩
abbrev S10000x64 : Shape := ⟨2, ![10000, 64]⟩
abbrev S_ : Shape := ⟨0, ![]⟩
abbrev S4x200x10000 : Shape := ⟨3, ![4, 200, 10000]⟩
abbrev S4 : Shape := ⟨1, ![4]⟩
abbrev S1 : Shape := ⟨1, ![1]⟩
abbrev S1x200x10000 : Shape := ⟨3, ![1, 200, 10000]⟩
abbrev S200x10000 : Shape := ⟨2, ![200, 10000]⟩
abbrev S200x64 : Shape := ⟨2, ![200, 64]⟩
abbrev S200x16 : Shape := ⟨2, ![200, 16]⟩
abbrev S200 : Shape := ⟨1, ![200]⟩
abbrev S200x1 : Shape := ⟨2, ![200, 1]⟩

abbrev nBuf : Space → Nat
  | .hbm => 10
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S1x64, .f32⟩
  | .hbm, ⟨8, _⟩ => ⟨S1x16, .f32⟩
  | .hbm, ⟨9, _⟩ => ⟨S10000x16, .f32⟩
  | .local _ .vmem, ⟨0, _⟩ => ⟨S128x64, .f32⟩
  | .local _ .vmem, ⟨1, _⟩ => ⟨S1x64, .f32⟩
  | .local _ .vmem, ⟨2, _⟩ => ⟨S64x16, .f32⟩
  | .local _ .vmem, ⟨3, _⟩ => ⟨S1x16, .f32⟩
  | .local _ .vmem, ⟨4, _⟩ => ⟨S10000x16, .f32⟩
  | .local _ .vmem, ⟨5, _⟩ => ⟨S10000x128, .f32⟩
  | .local _ .vmem, ⟨6, _⟩ => ⟨S10000x64, .f32⟩
  | .local _ .vmem, ⟨7, _⟩ => ⟨S10000x16, .f32⟩
  | .local _ .vmem, ⟨8, _⟩ => ⟨S4x200x10000, .f32⟩
  | .local _ .vmem, ⟨9, _⟩ => ⟨S4x200x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scoped0 : Ref sig .tc := ⟨.vmem, 8, rfl⟩
abbrev cc0_scoped2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 : Fin 1 → Nat :=
  let c0_i32_21_r0 : BitVec 32 := 0#32
  let c4_i32_r0 : BitVec 32 := 4#32
  let v24_r0 : BitVec 32 := Scalar.remui c0_i32_21_r0 c4_i32_r0
  ![v24_r0.toNat]
def k0_off2 : Fin 3 → Nat :=
  let c0_i32_21_r0 : BitVec 32 := 0#32
  let c4_i32_r0 : BitVec 32 := 4#32
  let v24_r0 : BitVec 32 := Scalar.remui c0_i32_21_r0 c4_i32_r0
  let c0_i32_22_r0 : BitVec 32 := 0#32
  let c0_i32_23_r0 : BitVec 32 := 0#32
  ![v24_r0.toNat, 0, 0]
def k0_cond1 : BitVec 1 :=
  let true_29_r0 : BitVec 1 := 1#1
  let true_2_r0 : BitVec 1 := 1#1
  let c1_i32_r0 : BitVec 32 := 1#32
  let c0_i32_3_r0 : BitVec 32 := 0#32
  let v5_r0 : BitVec 32 := Scalar.select true_2_r0 c1_i32_r0 c0_i32_3_r0
  let c50_i32_r0 : BitVec 32 := 50#32
  let v6_r0 : BitVec 1 := Scalar.cmpi .eq v5_r0 c50_i32_r0
  let c0_i32_4_r0 : BitVec 32 := 0#32
  let v7_r0 : BitVec 32 := Scalar.select v6_r0 c0_i32_4_r0 v5_r0
  let c0_i32_5_r0 : BitVec 32 := 0#32
  let v8_r0 : BitVec 32 := Scalar.addi v7_r0 c0_i32_5_r0
  let c0_i32_28_r0 : BitVec 32 := 0#32
  let v31_r0 : BitVec 1 := Scalar.cmpi .ne v8_r0 c0_i32_28_r0
  let v32_r0 : BitVec 1 := Scalar.andi true_29_r0 v31_r0
  let true_30_r0 : BitVec 1 := 1#1
  let v33_r0 : BitVec 1 := Scalar.andi v32_r0 true_30_r0
  let v34_r0 : BitVec 32 := Scalar.extui v33_r0
  let c0_i32_31_r0 : BitVec 32 := 0#32
  let v35_r0 : BitVec 1 := Scalar.cmpi .ne v34_r0 c0_i32_31_r0
  v35_r0

def k0_off3 : Fin 1 → Nat :=
  let c0_i32_26_r0 : BitVec 32 := 0#32
  let c1_i32_27_r0 : BitVec 32 := 1#32
  let v30_r0 : BitVec 32 := Scalar.addi c0_i32_26_r0 c1_i32_27_r0
  let c4_i32_73_r0 : BitVec 32 := 4#32
  let v77_r0 : BitVec 32 := Scalar.remui v30_r0 c4_i32_73_r0
  ![v77_r0.toNat]
def k0_off4 : Fin 3 → Nat :=
  let c0_i32_26_r0 : BitVec 32 := 0#32
  let c1_i32_27_r0 : BitVec 32 := 1#32
  let v30_r0 : BitVec 32 := Scalar.addi c0_i32_26_r0 c1_i32_27_r0
  let c4_i32_73_r0 : BitVec 32 := 4#32
  let v77_r0 : BitVec 32 := Scalar.remui v30_r0 c4_i32_73_r0
  let c0_i32_74_r0 : BitVec 32 := 0#32
  let c0_i32_75_r0 : BitVec 32 := 0#32
  ![v77_r0.toNat, 0, 0]
def k0_off5 : Fin 2 → Nat :=
  let c200_i32_r0 : BitVec 32 := 200#32
  let true_2_r0 : BitVec 1 := 1#1
  let c1_i32_r0 : BitVec 32 := 1#32
  let c0_i32_3_r0 : BitVec 32 := 0#32
  let v5_r0 : BitVec 32 := Scalar.select true_2_r0 c1_i32_r0 c0_i32_3_r0
  let c50_i32_r0 : BitVec 32 := 50#32
  let v6_r0 : BitVec 1 := Scalar.cmpi .eq v5_r0 c50_i32_r0
  let c0_i32_4_r0 : BitVec 32 := 0#32
  let v7_r0 : BitVec 32 := Scalar.select v6_r0 c0_i32_4_r0 v5_r0
  let c0_i32_5_r0 : BitVec 32 := 0#32
  let v8_r0 : BitVec 32 := Scalar.addi v7_r0 c0_i32_5_r0
  let v78_r0 : BitVec 32 := Scalar.muli c200_i32_r0 v8_r0
  let c0_i32_76_r0 : BitVec 32 := 0#32
  ![v78_r0.toNat, 0]
def k0_cond2 : BitVec 1 :=
  let true_33_r0 : BitVec 1 := 1#1
  let true_7_r0 : BitVec 1 := 1#1
  let true_2_r0 : BitVec 1 := 1#1
  let c1_i32_r0 : BitVec 32 := 1#32
  let c0_i32_3_r0 : BitVec 32 := 0#32
  let v5_r0 : BitVec 32 := Scalar.select true_2_r0 c1_i32_r0 c0_i32_3_r0
  let c50_i32_r0 : BitVec 32 := 50#32
  let v6_r0 : BitVec 1 := Scalar.cmpi .eq v5_r0 c50_i32_r0
  let c0_i32_4_r0 : BitVec 32 := 0#32
  let v7_r0 : BitVec 32 := Scalar.select v6_r0 c0_i32_4_r0 v5_r0
  let c1_i32_6_r0 : BitVec 32 := 1#32
  let v9_r0 : BitVec 32 := Scalar.addi v7_r0 c1_i32_6_r0
  let v10_r0 : BitVec 32 := Scalar.select true_7_r0 v9_r0 v7_r0
  let c50_i32_8_r0 : BitVec 32 := 50#32
  let v11_r0 : BitVec 1 := Scalar.cmpi .eq v10_r0 c50_i32_8_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let c0_i32_5_r0 : BitVec 32 := 0#32
  let v8_r0 : BitVec 32 := Scalar.addi v7_r0 c0_i32_5_r0
  let v38_r0 : BitVec 1 := Scalar.cmpi .ne v13_r0 v8_r0
  let v39_r0 : BitVec 1 := Scalar.andi true_33_r0 v38_r0
  let true_34_r0 : BitVec 1 := 1#1
  let v40_r0 : BitVec 1 := Scalar.andi v39_r0 true_34_r0
  let v41_r0 : BitVec 32 := Scalar.extui v40_r0
  let c0_i32_35_r0 : BitVec 32 := 0#32
  let v42_r0 : BitVec 1 := Scalar.cmpi .ne v41_r0 c0_i32_35_r0
  v42_r0

def k0_off6 : Fin 1 → Nat :=
  let true_29_r0 : BitVec 1 := 1#1
  let true_2_r0 : BitVec 1 := 1#1
  let c1_i32_r0 : BitVec 32 := 1#32
  let c0_i32_3_r0 : BitVec 32 := 0#32
  let v5_r0 : BitVec 32 := Scalar.select true_2_r0 c1_i32_r0 c0_i32_3_r0
  let c50_i32_r0 : BitVec 32 := 50#32
  let v6_r0 : BitVec 1 := Scalar.cmpi .eq v5_r0 c50_i32_r0
  let c0_i32_4_r0 : BitVec 32 := 0#32
  let v7_r0 : BitVec 32 := Scalar.select v6_r0 c0_i32_4_r0 v5_r0
  let c0_i32_5_r0 : BitVec 32 := 0#32
  let v8_r0 : BitVec 32 := Scalar.addi v7_r0 c0_i32_5_r0
  let c0_i32_28_r0 : BitVec 32 := 0#32
  let v31_r0 : BitVec 1 := Scalar.cmpi .ne v8_r0 c0_i32_28_r0
  let v32_r0 : BitVec 1 := Scalar.andi true_29_r0 v31_r0
  let c0_i32_26_r0 : BitVec 32 := 0#32
  let c1_i32_27_r0 : BitVec 32 := 1#32
  let v30_r0 : BitVec 32 := Scalar.addi c0_i32_26_r0 c1_i32_27_r0
  let c1_i32_32_r0 : BitVec 32 := 1#32
  let v36_r0 : BitVec 32 := Scalar.addi v30_r0 c1_i32_32_r0
  let v37_r0 : BitVec 32 := Scalar.select v32_r0 v36_r0 v30_r0
  let c4_i32_73_r0 : BitVec 32 := 4#32
  let v77_r0 : BitVec 32 := Scalar.remui v37_r0 c4_i32_73_r0
  ![v77_r0.toNat]
def k0_off7 : Fin 3 → Nat :=
  let true_29_r0 : BitVec 1 := 1#1
  let true_2_r0 : BitVec 1 := 1#1
  let c1_i32_r0 : BitVec 32 := 1#32
  let c0_i32_3_r0 : BitVec 32 := 0#32
  let v5_r0 : BitVec 32 := Scalar.select true_2_r0 c1_i32_r0 c0_i32_3_r0
  let c50_i32_r0 : BitVec 32 := 50#32
  let v6_r0 : BitVec 1 := Scalar.cmpi .eq v5_r0 c50_i32_r0
  let c0_i32_4_r0 : BitVec 32 := 0#32
  let v7_r0 : BitVec 32 := Scalar.select v6_r0 c0_i32_4_r0 v5_r0
  let c0_i32_5_r0 : BitVec 32 := 0#32
  let v8_r0 : BitVec 32 := Scalar.addi v7_r0 c0_i32_5_r0
  let c0_i32_28_r0 : BitVec 32 := 0#32
  let v31_r0 : BitVec 1 := Scalar.cmpi .ne v8_r0 c0_i32_28_r0
  let v32_r0 : BitVec 1 := Scalar.andi true_29_r0 v31_r0
  let c0_i32_26_r0 : BitVec 32 := 0#32
  let c1_i32_27_r0 : BitVec 32 := 1#32
  let v30_r0 : BitVec 32 := Scalar.addi c0_i32_26_r0 c1_i32_27_r0
  let c1_i32_32_r0 : BitVec 32 := 1#32
  let v36_r0 : BitVec 32 := Scalar.addi v30_r0 c1_i32_32_r0
  let v37_r0 : BitVec 32 := Scalar.select v32_r0 v36_r0 v30_r0
  let c4_i32_73_r0 : BitVec 32 := 4#32
  let v77_r0 : BitVec 32 := Scalar.remui v37_r0 c4_i32_73_r0
  let c0_i32_74_r0 : BitVec 32 := 0#32
  let c0_i32_75_r0 : BitVec 32 := 0#32
  ![v77_r0.toNat, 0, 0]
def k0_off8 : Fin 2 → Nat :=
  let c200_i32_r0 : BitVec 32 := 200#32
  let true_7_r0 : BitVec 1 := 1#1
  let true_2_r0 : BitVec 1 := 1#1
  let c1_i32_r0 : BitVec 32 := 1#32
  let c0_i32_3_r0 : BitVec 32 := 0#32
  let v5_r0 : BitVec 32 := Scalar.select true_2_r0 c1_i32_r0 c0_i32_3_r0
  let c50_i32_r0 : BitVec 32 := 50#32
  let v6_r0 : BitVec 1 := Scalar.cmpi .eq v5_r0 c50_i32_r0
  let c0_i32_4_r0 : BitVec 32 := 0#32
  let v7_r0 : BitVec 32 := Scalar.select v6_r0 c0_i32_4_r0 v5_r0
  let c1_i32_6_r0 : BitVec 32 := 1#32
  let v9_r0 : BitVec 32 := Scalar.addi v7_r0 c1_i32_6_r0
  let v10_r0 : BitVec 32 := Scalar.select true_7_r0 v9_r0 v7_r0
  let c50_i32_8_r0 : BitVec 32 := 50#32
  let v11_r0 : BitVec 1 := Scalar.cmpi .eq v10_r0 c50_i32_8_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let v78_r0 : BitVec 32 := Scalar.muli c200_i32_r0 v13_r0
  let c0_i32_76_r0 : BitVec 32 := 0#32
  ![v78_r0.toNat, 0]
@[reducible] def k0_t1_loop : Scf.Loop 32 :=
  let c0_i32_39_r0 : BitVec 32 := 0#32
  let c50_i32_40_r0 : BitVec 32 := 50#32
  let v45_r0 : BitVec 32 := Scalar.addi c0_i32_39_r0 c50_i32_40_r0
  let c1_i32_41_r0 : BitVec 32 := 1#32
  ⟨c0_i32_39_r0, v45_r0, c1_i32_41_r0⟩
def k0_off9 (arg13_r0 : BitVec 32) : Fin 1 → Nat :=
  let c4_i32_130_r0 : BitVec 32 := 4#32
  let v162_r0 : BitVec 32 := Scalar.remui arg13_r0 c4_i32_130_r0
  ![v162_r0.toNat]
def k0_cond3 (k0_t1 : Fin k0_t1_loop.trips) (arg15_r0 : BitVec 32) : BitVec 1 :=
  let true_87_r0 : BitVec 1 := 1#1
  let true_82_r0 : BitVec 1 := 1#1
  let c1_i32_81_r0 : BitVec 32 := 1#32
  let v85_r0 : BitVec 32 := Scalar.addi arg15_r0 c1_i32_81_r0
  let v86_r0 : BitVec 32 := Scalar.select true_82_r0 v85_r0 arg15_r0
  let c50_i32_83_r0 : BitVec 32 := 50#32
  let v87_r0 : BitVec 1 := Scalar.cmpi .eq v86_r0 c50_i32_83_r0
  let c0_i32_84_r0 : BitVec 32 := 0#32
  let v88_r0 : BitVec 32 := Scalar.select v87_r0 c0_i32_84_r0 v86_r0
  let c1_i32_86_r0 : BitVec 32 := 1#32
  let v90_r0 : BitVec 32 := Scalar.addi v88_r0 c1_i32_86_r0
  let v91_r0 : BitVec 32 := Scalar.select true_87_r0 v90_r0 v88_r0
  let c50_i32_88_r0 : BitVec 32 := 50#32
  let v92_r0 : BitVec 1 := Scalar.cmpi .eq v91_r0 c50_i32_88_r0
  let c0_i32_89_r0 : BitVec 32 := 0#32
  let v93_r0 : BitVec 32 := Scalar.select v92_r0 c0_i32_89_r0 v91_r0
  let c0_i32_90_r0 : BitVec 32 := 0#32
  let v94_r0 : BitVec 32 := Scalar.addi v93_r0 c0_i32_90_r0
  let true_92_r0 : BitVec 1 := 1#1
  let c1_i32_91_r0 : BitVec 32 := 1#32
  let v95_r0 : BitVec 32 := Scalar.addi v93_r0 c1_i32_91_r0
  let v96_r0 : BitVec 32 := Scalar.select true_92_r0 v95_r0 v93_r0
  let c50_i32_93_r0 : BitVec 32 := 50#32
  let v97_r0 : BitVec 1 := Scalar.cmpi .eq v96_r0 c50_i32_93_r0
  let c0_i32_94_r0 : BitVec 32 := 0#32
  let v98_r0 : BitVec 32 := Scalar.select v97_r0 c0_i32_94_r0 v96_r0
  let c0_i32_95_r0 : BitVec 32 := 0#32
  let v99_r0 : BitVec 32 := Scalar.addi v98_r0 c0_i32_95_r0
  let v105_r0 : BitVec 1 := Scalar.cmpi .ne v94_r0 v99_r0
  let c0_i32_39_r0 : BitVec 32 := 0#32
  let c1_i32_41_r0 : BitVec 32 := 1#32
  let arg12_r0 : BitVec 32 := Scf.iv c0_i32_39_r0 c1_i32_41_r0 k0_t1
  let c47_i32_r0 : BitVec 32 := 47#32
  let v106_r0 : BitVec 1 := Scalar.cmpi .sge arg12_r0 c47_i32_r0
  let true_101_r0 : BitVec 1 := 1#1
  let v107_r0 : BitVec 1 := Scalar.xori v106_r0 true_101_r0
  let v108_r0 : BitVec 1 := Scalar.andi v105_r0 v107_r0
  let true_102_r0 : BitVec 1 := 1#1
  let v109_r0 : BitVec 1 := Scalar.andi v108_r0 true_102_r0
  let v110_r0 : BitVec 32 := Scalar.extui v109_r0
  let c0_i32_103_r0 : BitVec 32 := 0#32
  let v111_r0 : BitVec 1 := Scalar.cmpi .ne v110_r0 c0_i32_103_r0
  v111_r0

def k0_off10 (arg13_r0 : BitVec 32) : Fin 3 → Nat :=
  let c4_i32_130_r0 : BitVec 32 := 4#32
  let v162_r0 : BitVec 32 := Scalar.remui arg13_r0 c4_i32_130_r0
  let c0_i32_132_r0 : BitVec 32 := 0#32
  let c0_i32_133_r0 : BitVec 32 := 0#32
  ![v162_r0.toNat, 0, 0]
def k0_off11 (arg15_r0 : BitVec 32) : Fin 2 → Nat :=
  let c200_i32_131_r0 : BitVec 32 := 200#32
  let true_92_r0 : BitVec 1 := 1#1
  let true_87_r0 : BitVec 1 := 1#1
  let true_82_r0 : BitVec 1 := 1#1
  let c1_i32_81_r0 : BitVec 32 := 1#32
  let v85_r0 : BitVec 32 := Scalar.addi arg15_r0 c1_i32_81_r0
  let v86_r0 : BitVec 32 := Scalar.select true_82_r0 v85_r0 arg15_r0
  let c50_i32_83_r0 : BitVec 32 := 50#32
  let v87_r0 : BitVec 1 := Scalar.cmpi .eq v86_r0 c50_i32_83_r0
  let c0_i32_84_r0 : BitVec 32 := 0#32
  let v88_r0 : BitVec 32 := Scalar.select v87_r0 c0_i32_84_r0 v86_r0
  let c1_i32_86_r0 : BitVec 32 := 1#32
  let v90_r0 : BitVec 32 := Scalar.addi v88_r0 c1_i32_86_r0
  let v91_r0 : BitVec 32 := Scalar.select true_87_r0 v90_r0 v88_r0
  let c50_i32_88_r0 : BitVec 32 := 50#32
  let v92_r0 : BitVec 1 := Scalar.cmpi .eq v91_r0 c50_i32_88_r0
  let c0_i32_89_r0 : BitVec 32 := 0#32
  let v93_r0 : BitVec 32 := Scalar.select v92_r0 c0_i32_89_r0 v91_r0
  let c1_i32_91_r0 : BitVec 32 := 1#32
  let v95_r0 : BitVec 32 := Scalar.addi v93_r0 c1_i32_91_r0
  let v96_r0 : BitVec 32 := Scalar.select true_92_r0 v95_r0 v93_r0
  let c50_i32_93_r0 : BitVec 32 := 50#32
  let v97_r0 : BitVec 1 := Scalar.cmpi .eq v96_r0 c50_i32_93_r0
  let c0_i32_94_r0 : BitVec 32 := 0#32
  let v98_r0 : BitVec 32 := Scalar.select v97_r0 c0_i32_94_r0 v96_r0
  let c0_i32_95_r0 : BitVec 32 := 0#32
  let v99_r0 : BitVec 32 := Scalar.addi v98_r0 c0_i32_95_r0
  let v163_r0 : BitVec 32 := Scalar.muli c200_i32_131_r0 v99_r0
  let c0_i32_134_r0 : BitVec 32 := 0#32
  ![v163_r0.toNat, 0]
def k0_off12 (arg14_r0 : BitVec 32) : Fin 1 → Nat :=
  let c4_i32_131_r0 : BitVec 32 := 4#32
  let v163_r0 : BitVec 32 := Scalar.remui arg14_r0 c4_i32_131_r0
  ![v163_r0.toNat]
def k0_cond4 (k0_t1 : Fin k0_t1_loop.trips) (arg15_r0 : BitVec 32) : BitVec 1 :=
  let c0_i32_75_r0 : BitVec 32 := 0#32
  let v79_r0 : BitVec 32 := Scalar.addi arg15_r0 c0_i32_75_r0
  let true_77_r0 : BitVec 1 := 1#1
  let c1_i32_76_r0 : BitVec 32 := 1#32
  let v80_r0 : BitVec 32 := Scalar.subi arg15_r0 c1_i32_76_r0
  let v81_r0 : BitVec 32 := Scalar.select true_77_r0 v80_r0 arg15_r0
  let c_m1_i32_78_r0 : BitVec 32 := 4294967295#32
  let v82_r0 : BitVec 1 := Scalar.cmpi .eq v81_r0 c_m1_i32_78_r0
  let c49_i32_79_r0 : BitVec 32 := 49#32
  let v83_r0 : BitVec 32 := Scalar.select v82_r0 c49_i32_79_r0 v81_r0
  let c0_i32_80_r0 : BitVec 32 := 0#32
  let v84_r0 : BitVec 32 := Scalar.addi v83_r0 c0_i32_80_r0
  let v115_r0 : BitVec 1 := Scalar.cmpi .ne v79_r0 v84_r0
  let c0_i32_39_r0 : BitVec 32 := 0#32
  let c1_i32_41_r0 : BitVec 32 := 1#32
  let arg12_r0 : BitVec 32 := Scf.iv c0_i32_39_r0 c1_i32_41_r0 k0_t1
  let c0_i32_73_r0 : BitVec 32 := 0#32
  let v77_r0 : BitVec 1 := Scalar.cmpi .eq arg12_r0 c0_i32_73_r0
  let v116_r0 : BitVec 1 := Scalar.ori v115_r0 v77_r0
  let c0_i32_106_r0 : BitVec 32 := 0#32
  let v117_r0 : BitVec 1 := Scalar.cmpi .sge arg12_r0 c0_i32_106_r0
  let v118_r0 : BitVec 1 := Scalar.andi v116_r0 v117_r0
  let v119_r0 : BitVec 32 := Scalar.extui v118_r0
  let c0_i32_107_r0 : BitVec 32 := 0#32
  let v120_r0 : BitVec 1 := Scalar.cmpi .ne v119_r0 c0_i32_107_r0
  v120_r0

def k0_off13 (arg14_r0 : BitVec 32) : Fin 3 → Nat :=
  let c4_i32_131_r0 : BitVec 32 := 4#32
  let v163_r0 : BitVec 32 := Scalar.remui arg14_r0 c4_i32_131_r0
  let c0_i32_132_r0 : BitVec 32 := 0#32
  let c0_i32_133_r0 : BitVec 32 := 0#32
  ![v163_r0.toNat, 0, 0]
def k0_off14 (arg15_r0 : BitVec 32) : Fin 2 → Nat :=
  let c200_i32_130_r0 : BitVec 32 := 200#32
  let c0_i32_75_r0 : BitVec 32 := 0#32
  let v79_r0 : BitVec 32 := Scalar.addi arg15_r0 c0_i32_75_r0
  let v162_r0 : BitVec 32 := Scalar.muli c200_i32_130_r0 v79_r0
  let c0_i32_134_r0 : BitVec 32 := 0#32
  ![v162_r0.toNat, 0]
def k0_off15 (arg14_r0 : BitVec 32) : Fin 3 → Nat :=
  let c4_i32_108_r0 : BitVec 32 := 4#32
  let v121_r0 : BitVec 32 := Scalar.remui arg14_r0 c4_i32_108_r0
  let v125_r0 : Index := Scalar.indexCast v121_r0
  let c0_r0 : Index := 0#32
  let c0_111_r0 : Index := 0#32
  ![v125_r0.toNat, 0, 0]

def k0_chk2 (arg14_r0 : BitVec 32) : Prop :=
  (∀ a, (k0_off15 arg14_r0) a + S1x200x10000.size a ≤ S4x200x10000.size a)
theorem k0_off15_inb : ∀ (arg14_r0 : BitVec 32) (k0_hw2 : k0_chk2 arg14_r0), ∀ a, (k0_off15 arg14_r0) a + S1x200x10000.size a ≤ S4x200x10000.size a := fun arg14_r0 k0_hw2 => k0_hw2

def k0_off16 (arg15_r0 : BitVec 32) : Fin 2 → Nat :=
  let c0_i32_75_r0 : BitVec 32 := 0#32
  let v79_r0 : BitVec 32 := Scalar.addi arg15_r0 c0_i32_75_r0
  let c200_i32_r0 : BitVec 32 := 200#32
  let v138_r0 : BitVec 32 := Scalar.muli v79_r0 c200_i32_r0
  let v139_r0 : Index := Scalar.indexCast v138_r0
  let c0_120_r0 : Index := 0#32
  ![v139_r0.toNat, 0]

def k0_chk1 (k0_t1 : Fin k0_t1_loop.trips) (arg13_r0 : BitVec 32) (arg14_r0 : BitVec 32) (arg15_r0 : BitVec 32) : Prop :=
  (∀ (k0_h3 : k0_cond3 k0_t1 arg15_r0 = 1#1), ∀ a, (k0_off9 arg13_r0) a + S1.size a ≤ S4.size a) ∧
  (∀ (k0_h3 : k0_cond3 k0_t1 arg15_r0 = 1#1), ∀ a, (k0_off10 arg13_r0) a + S1x200x10000.size a ≤ S4x200x10000.size a) ∧
  (∀ (k0_h3 : k0_cond3 k0_t1 arg15_r0 = 1#1), ∀ a, (k0_off11 arg15_r0) a + S200x10000.size a ≤ S10000x10000.size a) ∧
  (∀ (k0_h4 : k0_cond4 k0_t1 arg15_r0 = 1#1), ∀ a, (k0_off12 arg14_r0) a + S1.size a ≤ S4.size a) ∧
  (∀ (k0_h4 : k0_cond4 k0_t1 arg15_r0 = 1#1), ∀ a, (k0_off13 arg14_r0) a + S1x200x10000.size a ≤ S4x200x10000.size a) ∧
  (∀ (k0_h4 : k0_cond4 k0_t1 arg15_r0 = 1#1), ∀ a, (k0_off14 arg15_r0) a + S200x10000.size a ≤ S10000x10000.size a) ∧
  (∀ a, (k0_off16 arg15_r0) a + S200x16.size a ≤ S10000x16.size a)
theorem k0_off9_inb : ∀ (k0_t1 : Fin k0_t1_loop.trips) (arg13_r0 : BitVec 32) (arg14_r0 : BitVec 32) (arg15_r0 : BitVec 32) (k0_hw1 : k0_chk1 k0_t1 arg13_r0 arg14_r0 arg15_r0), ∀ (k0_h3 : k0_cond3 k0_t1 arg15_r0 = 1#1), ∀ a, (k0_off9 arg13_r0) a + S1.size a ≤ S4.size a := fun k0_t1 arg13_r0 arg14_r0 arg15_r0 k0_hw1 k0_h3 => k0_hw1.1 k0_h3
theorem k0_off10_inb : ∀ (k0_t1 : Fin k0_t1_loop.trips) (arg13_r0 : BitVec 32) (arg14_r0 : BitVec 32) (arg15_r0 : BitVec 32) (k0_hw1 : k0_chk1 k0_t1 arg13_r0 arg14_r0 arg15_r0), ∀ (k0_h3 : k0_cond3 k0_t1 arg15_r0 = 1#1), ∀ a, (k0_off10 arg13_r0) a + S1x200x10000.size a ≤ S4x200x10000.size a := fun k0_t1 arg13_r0 arg14_r0 arg15_r0 k0_hw1 k0_h3 => k0_hw1.2.1 k0_h3
theorem k0_off11_inb : ∀ (k0_t1 : Fin k0_t1_loop.trips) (arg13_r0 : BitVec 32) (arg14_r0 : BitVec 32) (arg15_r0 : BitVec 32) (k0_hw1 : k0_chk1 k0_t1 arg13_r0 arg14_r0 arg15_r0), ∀ (k0_h3 : k0_cond3 k0_t1 arg15_r0 = 1#1), ∀ a, (k0_off11 arg15_r0) a + S200x10000.size a ≤ S10000x10000.size a := fun k0_t1 arg13_r0 arg14_r0 arg15_r0 k0_hw1 k0_h3 => k0_hw1.2.2.1 k0_h3
theorem k0_off12_inb : ∀ (k0_t1 : Fin k0_t1_loop.trips) (arg13_r0 : BitVec 32) (arg14_r0 : BitVec 32) (arg15_r0 : BitVec 32) (k0_hw1 : k0_chk1 k0_t1 arg13_r0 arg14_r0 arg15_r0), ∀ (k0_h4 : k0_cond4 k0_t1 arg15_r0 = 1#1), ∀ a, (k0_off12 arg14_r0) a + S1.size a ≤ S4.size a := fun k0_t1 arg13_r0 arg14_r0 arg15_r0 k0_hw1 k0_h4 => k0_hw1.2.2.2.1 k0_h4
theorem k0_off13_inb : ∀ (k0_t1 : Fin k0_t1_loop.trips) (arg13_r0 : BitVec 32) (arg14_r0 : BitVec 32) (arg15_r0 : BitVec 32) (k0_hw1 : k0_chk1 k0_t1 arg13_r0 arg14_r0 arg15_r0), ∀ (k0_h4 : k0_cond4 k0_t1 arg15_r0 = 1#1), ∀ a, (k0_off13 arg14_r0) a + S1x200x10000.size a ≤ S4x200x10000.size a := fun k0_t1 arg13_r0 arg14_r0 arg15_r0 k0_hw1 k0_h4 => k0_hw1.2.2.2.2.1 k0_h4
theorem k0_off14_inb : ∀ (k0_t1 : Fin k0_t1_loop.trips) (arg13_r0 : BitVec 32) (arg14_r0 : BitVec 32) (arg15_r0 : BitVec 32) (k0_hw1 : k0_chk1 k0_t1 arg13_r0 arg14_r0 arg15_r0), ∀ (k0_h4 : k0_cond4 k0_t1 arg15_r0 = 1#1), ∀ a, (k0_off14 arg15_r0) a + S200x10000.size a ≤ S10000x10000.size a := fun k0_t1 arg13_r0 arg14_r0 arg15_r0 k0_hw1 k0_h4 => k0_hw1.2.2.2.2.2.1 k0_h4
theorem k0_off16_inb : ∀ (k0_t1 : Fin k0_t1_loop.trips) (arg13_r0 : BitVec 32) (arg14_r0 : BitVec 32) (arg15_r0 : BitVec 32) (k0_hw1 : k0_chk1 k0_t1 arg13_r0 arg14_r0 arg15_r0), ∀ a, (k0_off16 arg15_r0) a + S200x16.size a ≤ S10000x16.size a := fun k0_t1 arg13_r0 arg14_r0 arg15_r0 k0_hw1 => k0_hw1.2.2.2.2.2.2

def k0_cond8 : BitVec 1 :=
  let true_29_r1 : BitVec 1 := 1#1
  let true_2_r1 : BitVec 1 := 1#1
  let c1_i32_r1 : BitVec 32 := 1#32
  let c0_i32_3_r1 : BitVec 32 := 0#32
  let v5_r1 : BitVec 32 := Scalar.select true_2_r1 c1_i32_r1 c0_i32_3_r1
  let c50_i32_r1 : BitVec 32 := 50#32
  let v6_r1 : BitVec 1 := Scalar.cmpi .eq v5_r1 c50_i32_r1
  let c0_i32_4_r1 : BitVec 32 := 0#32
  let v7_r1 : BitVec 32 := Scalar.select v6_r1 c0_i32_4_r1 v5_r1
  let c0_i32_5_r1 : BitVec 32 := 0#32
  let v8_r1 : BitVec 32 := Scalar.addi v7_r1 c0_i32_5_r1
  let c0_i32_28_r1 : BitVec 32 := 0#32
  let v31_r1 : BitVec 1 := Scalar.cmpi .ne v8_r1 c0_i32_28_r1
  let v32_r1 : BitVec 1 := Scalar.andi true_29_r1 v31_r1
  let true_30_r1 : BitVec 1 := 1#1
  let v33_r1 : BitVec 1 := Scalar.andi v32_r1 true_30_r1
  let v34_r1 : BitVec 32 := Scalar.extui v33_r1
  let c0_i32_31_r1 : BitVec 32 := 0#32
  let v35_r1 : BitVec 1 := Scalar.cmpi .ne v34_r1 c0_i32_31_r1
  v35_r1

def k0_off17 : Fin 1 → Nat :=
  let c0_i32_26_r1 : BitVec 32 := 0#32
  let c1_i32_27_r1 : BitVec 32 := 1#32
  let v30_r1 : BitVec 32 := Scalar.addi c0_i32_26_r1 c1_i32_27_r1
  let c4_i32_73_r1 : BitVec 32 := 4#32
  let v77_r1 : BitVec 32 := Scalar.remui v30_r1 c4_i32_73_r1
  ![v77_r1.toNat]
def k0_off18 : Fin 3 → Nat :=
  let c0_i32_26_r1 : BitVec 32 := 0#32
  let c1_i32_27_r1 : BitVec 32 := 1#32
  let v30_r1 : BitVec 32 := Scalar.addi c0_i32_26_r1 c1_i32_27_r1
  let c4_i32_73_r1 : BitVec 32 := 4#32
  let v77_r1 : BitVec 32 := Scalar.remui v30_r1 c4_i32_73_r1
  let c0_i32_74_r1 : BitVec 32 := 0#32
  let c0_i32_75_r1 : BitVec 32 := 0#32
  ![v77_r1.toNat, 0, 0]
def k0_off19 : Fin 2 → Nat :=
  let c200_i32_r1 : BitVec 32 := 200#32
  let true_2_r1 : BitVec 1 := 1#1
  let c1_i32_r1 : BitVec 32 := 1#32
  let c0_i32_3_r1 : BitVec 32 := 0#32
  let v5_r1 : BitVec 32 := Scalar.select true_2_r1 c1_i32_r1 c0_i32_3_r1
  let c50_i32_r1 : BitVec 32 := 50#32
  let v6_r1 : BitVec 1 := Scalar.cmpi .eq v5_r1 c50_i32_r1
  let c0_i32_4_r1 : BitVec 32 := 0#32
  let v7_r1 : BitVec 32 := Scalar.select v6_r1 c0_i32_4_r1 v5_r1
  let c0_i32_5_r1 : BitVec 32 := 0#32
  let v8_r1 : BitVec 32 := Scalar.addi v7_r1 c0_i32_5_r1
  let v78_r1 : BitVec 32 := Scalar.muli c200_i32_r1 v8_r1
  let c0_i32_76_r1 : BitVec 32 := 0#32
  ![v78_r1.toNat, 0]
def k0_cond9 : BitVec 1 :=
  let true_33_r1 : BitVec 1 := 1#1
  let true_7_r1 : BitVec 1 := 1#1
  let true_2_r1 : BitVec 1 := 1#1
  let c1_i32_r1 : BitVec 32 := 1#32
  let c0_i32_3_r1 : BitVec 32 := 0#32
  let v5_r1 : BitVec 32 := Scalar.select true_2_r1 c1_i32_r1 c0_i32_3_r1
  let c50_i32_r1 : BitVec 32 := 50#32
  let v6_r1 : BitVec 1 := Scalar.cmpi .eq v5_r1 c50_i32_r1
  let c0_i32_4_r1 : BitVec 32 := 0#32
  let v7_r1 : BitVec 32 := Scalar.select v6_r1 c0_i32_4_r1 v5_r1
  let c1_i32_6_r1 : BitVec 32 := 1#32
  let v9_r1 : BitVec 32 := Scalar.addi v7_r1 c1_i32_6_r1
  let v10_r1 : BitVec 32 := Scalar.select true_7_r1 v9_r1 v7_r1
  let c50_i32_8_r1 : BitVec 32 := 50#32
  let v11_r1 : BitVec 1 := Scalar.cmpi .eq v10_r1 c50_i32_8_r1
  let c0_i32_9_r1 : BitVec 32 := 0#32
  let v12_r1 : BitVec 32 := Scalar.select v11_r1 c0_i32_9_r1 v10_r1
  let c0_i32_10_r1 : BitVec 32 := 0#32
  let v13_r1 : BitVec 32 := Scalar.addi v12_r1 c0_i32_10_r1
  let c0_i32_5_r1 : BitVec 32 := 0#32
  let v8_r1 : BitVec 32 := Scalar.addi v7_r1 c0_i32_5_r1
  let v38_r1 : BitVec 1 := Scalar.cmpi .ne v13_r1 v8_r1
  let v39_r1 : BitVec 1 := Scalar.andi true_33_r1 v38_r1
  let true_34_r1 : BitVec 1 := 1#1
  let v40_r1 : BitVec 1 := Scalar.andi v39_r1 true_34_r1
  let v41_r1 : BitVec 32 := Scalar.extui v40_r1
  let c0_i32_35_r1 : BitVec 32 := 0#32
  let v42_r1 : BitVec 1 := Scalar.cmpi .ne v41_r1 c0_i32_35_r1
  v42_r1

def k0_off20 : Fin 1 → Nat :=
  let true_29_r1 : BitVec 1 := 1#1
  let true_2_r1 : BitVec 1 := 1#1
  let c1_i32_r1 : BitVec 32 := 1#32
  let c0_i32_3_r1 : BitVec 32 := 0#32
  let v5_r1 : BitVec 32 := Scalar.select true_2_r1 c1_i32_r1 c0_i32_3_r1
  let c50_i32_r1 : BitVec 32 := 50#32
  let v6_r1 : BitVec 1 := Scalar.cmpi .eq v5_r1 c50_i32_r1
  let c0_i32_4_r1 : BitVec 32 := 0#32
  let v7_r1 : BitVec 32 := Scalar.select v6_r1 c0_i32_4_r1 v5_r1
  let c0_i32_5_r1 : BitVec 32 := 0#32
  let v8_r1 : BitVec 32 := Scalar.addi v7_r1 c0_i32_5_r1
  let c0_i32_28_r1 : BitVec 32 := 0#32
  let v31_r1 : BitVec 1 := Scalar.cmpi .ne v8_r1 c0_i32_28_r1
  let v32_r1 : BitVec 1 := Scalar.andi true_29_r1 v31_r1
  let c0_i32_26_r1 : BitVec 32 := 0#32
  let c1_i32_27_r1 : BitVec 32 := 1#32
  let v30_r1 : BitVec 32 := Scalar.addi c0_i32_26_r1 c1_i32_27_r1
  let c1_i32_32_r1 : BitVec 32 := 1#32
  let v36_r1 : BitVec 32 := Scalar.addi v30_r1 c1_i32_32_r1
  let v37_r1 : BitVec 32 := Scalar.select v32_r1 v36_r1 v30_r1
  let c4_i32_73_r1 : BitVec 32 := 4#32
  let v77_r1 : BitVec 32 := Scalar.remui v37_r1 c4_i32_73_r1
  ![v77_r1.toNat]
def k0_off21 : Fin 3 → Nat :=
  let true_29_r1 : BitVec 1 := 1#1
  let true_2_r1 : BitVec 1 := 1#1
  let c1_i32_r1 : BitVec 32 := 1#32
  let c0_i32_3_r1 : BitVec 32 := 0#32
  let v5_r1 : BitVec 32 := Scalar.select true_2_r1 c1_i32_r1 c0_i32_3_r1
  let c50_i32_r1 : BitVec 32 := 50#32
  let v6_r1 : BitVec 1 := Scalar.cmpi .eq v5_r1 c50_i32_r1
  let c0_i32_4_r1 : BitVec 32 := 0#32
  let v7_r1 : BitVec 32 := Scalar.select v6_r1 c0_i32_4_r1 v5_r1
  let c0_i32_5_r1 : BitVec 32 := 0#32
  let v8_r1 : BitVec 32 := Scalar.addi v7_r1 c0_i32_5_r1
  let c0_i32_28_r1 : BitVec 32 := 0#32
  let v31_r1 : BitVec 1 := Scalar.cmpi .ne v8_r1 c0_i32_28_r1
  let v32_r1 : BitVec 1 := Scalar.andi true_29_r1 v31_r1
  let c0_i32_26_r1 : BitVec 32 := 0#32
  let c1_i32_27_r1 : BitVec 32 := 1#32
  let v30_r1 : BitVec 32 := Scalar.addi c0_i32_26_r1 c1_i32_27_r1
  let c1_i32_32_r1 : BitVec 32 := 1#32
  let v36_r1 : BitVec 32 := Scalar.addi v30_r1 c1_i32_32_r1
  let v37_r1 : BitVec 32 := Scalar.select v32_r1 v36_r1 v30_r1
  let c4_i32_73_r1 : BitVec 32 := 4#32
  let v77_r1 : BitVec 32 := Scalar.remui v37_r1 c4_i32_73_r1
  let c0_i32_74_r1 : BitVec 32 := 0#32
  let c0_i32_75_r1 : BitVec 32 := 0#32
  ![v77_r1.toNat, 0, 0]
def k0_off22 : Fin 2 → Nat :=
  let c200_i32_r1 : BitVec 32 := 200#32
  let true_7_r1 : BitVec 1 := 1#1
  let true_2_r1 : BitVec 1 := 1#1
  let c1_i32_r1 : BitVec 32 := 1#32
  let c0_i32_3_r1 : BitVec 32 := 0#32
  let v5_r1 : BitVec 32 := Scalar.select true_2_r1 c1_i32_r1 c0_i32_3_r1
  let c50_i32_r1 : BitVec 32 := 50#32
  let v6_r1 : BitVec 1 := Scalar.cmpi .eq v5_r1 c50_i32_r1
  let c0_i32_4_r1 : BitVec 32 := 0#32
  let v7_r1 : BitVec 32 := Scalar.select v6_r1 c0_i32_4_r1 v5_r1
  let c1_i32_6_r1 : BitVec 32 := 1#32
  let v9_r1 : BitVec 32 := Scalar.addi v7_r1 c1_i32_6_r1
  let v10_r1 : BitVec 32 := Scalar.select true_7_r1 v9_r1 v7_r1
  let c50_i32_8_r1 : BitVec 32 := 50#32
  let v11_r1 : BitVec 1 := Scalar.cmpi .eq v10_r1 c50_i32_8_r1
  let c0_i32_9_r1 : BitVec 32 := 0#32
  let v12_r1 : BitVec 32 := Scalar.select v11_r1 c0_i32_9_r1 v10_r1
  let c0_i32_10_r1 : BitVec 32 := 0#32
  let v13_r1 : BitVec 32 := Scalar.addi v12_r1 c0_i32_10_r1
  let v78_r1 : BitVec 32 := Scalar.muli c200_i32_r1 v13_r1
  let c0_i32_76_r1 : BitVec 32 := 0#32
  ![v78_r1.toNat, 0]
@[reducible] def k0_t2_loop : Scf.Loop 32 :=
  let c0_i32_39_r1 : BitVec 32 := 0#32
  let c50_i32_40_r1 : BitVec 32 := 50#32
  let v45_r1 : BitVec 32 := Scalar.addi c0_i32_39_r1 c50_i32_40_r1
  let c1_i32_41_r1 : BitVec 32 := 1#32
  ⟨c0_i32_39_r1, v45_r1, c1_i32_41_r1⟩
def k0_off23 (arg13_r1 : BitVec 32) : Fin 1 → Nat :=
  let c4_i32_126_r1 : BitVec 32 := 4#32
  let v164_r1 : BitVec 32 := Scalar.remui arg13_r1 c4_i32_126_r1
  ![v164_r1.toNat]
def k0_cond10 (k0_t2 : Fin k0_t2_loop.trips) (arg15_r1 : BitVec 32) : BitVec 1 :=
  let true_87_r1 : BitVec 1 := 1#1
  let true_82_r1 : BitVec 1 := 1#1
  let c1_i32_81_r1 : BitVec 32 := 1#32
  let v85_r1 : BitVec 32 := Scalar.addi arg15_r1 c1_i32_81_r1
  let v86_r1 : BitVec 32 := Scalar.select true_82_r1 v85_r1 arg15_r1
  let c50_i32_83_r1 : BitVec 32 := 50#32
  let v87_r1 : BitVec 1 := Scalar.cmpi .eq v86_r1 c50_i32_83_r1
  let c0_i32_84_r1 : BitVec 32 := 0#32
  let v88_r1 : BitVec 32 := Scalar.select v87_r1 c0_i32_84_r1 v86_r1
  let c1_i32_86_r1 : BitVec 32 := 1#32
  let v90_r1 : BitVec 32 := Scalar.addi v88_r1 c1_i32_86_r1
  let v91_r1 : BitVec 32 := Scalar.select true_87_r1 v90_r1 v88_r1
  let c50_i32_88_r1 : BitVec 32 := 50#32
  let v92_r1 : BitVec 1 := Scalar.cmpi .eq v91_r1 c50_i32_88_r1
  let c0_i32_89_r1 : BitVec 32 := 0#32
  let v93_r1 : BitVec 32 := Scalar.select v92_r1 c0_i32_89_r1 v91_r1
  let c0_i32_90_r1 : BitVec 32 := 0#32
  let v94_r1 : BitVec 32 := Scalar.addi v93_r1 c0_i32_90_r1
  let true_92_r1 : BitVec 1 := 1#1
  let c1_i32_91_r1 : BitVec 32 := 1#32
  let v95_r1 : BitVec 32 := Scalar.addi v93_r1 c1_i32_91_r1
  let v96_r1 : BitVec 32 := Scalar.select true_92_r1 v95_r1 v93_r1
  let c50_i32_93_r1 : BitVec 32 := 50#32
  let v97_r1 : BitVec 1 := Scalar.cmpi .eq v96_r1 c50_i32_93_r1
  let c0_i32_94_r1 : BitVec 32 := 0#32
  let v98_r1 : BitVec 32 := Scalar.select v97_r1 c0_i32_94_r1 v96_r1
  let c0_i32_95_r1 : BitVec 32 := 0#32
  let v99_r1 : BitVec 32 := Scalar.addi v98_r1 c0_i32_95_r1
  let v105_r1 : BitVec 1 := Scalar.cmpi .ne v94_r1 v99_r1
  let c0_i32_39_r1 : BitVec 32 := 0#32
  let c1_i32_41_r1 : BitVec 32 := 1#32
  let arg12_r1 : BitVec 32 := Scf.iv c0_i32_39_r1 c1_i32_41_r1 k0_t2
  let c47_i32_r1 : BitVec 32 := 47#32
  let v106_r1 : BitVec 1 := Scalar.cmpi .sge arg12_r1 c47_i32_r1
  let true_101_r1 : BitVec 1 := 1#1
  let v107_r1 : BitVec 1 := Scalar.xori v106_r1 true_101_r1
  let v108_r1 : BitVec 1 := Scalar.andi v105_r1 v107_r1
  let true_102_r1 : BitVec 1 := 1#1
  let v109_r1 : BitVec 1 := Scalar.andi v108_r1 true_102_r1
  let v110_r1 : BitVec 32 := Scalar.extui v109_r1
  let c0_i32_103_r1 : BitVec 32 := 0#32
  let v111_r1 : BitVec 1 := Scalar.cmpi .ne v110_r1 c0_i32_103_r1
  v111_r1

def k0_off24 (arg13_r1 : BitVec 32) : Fin 3 → Nat :=
  let c4_i32_126_r1 : BitVec 32 := 4#32
  let v164_r1 : BitVec 32 := Scalar.remui arg13_r1 c4_i32_126_r1
  let c0_i32_128_r1 : BitVec 32 := 0#32
  let c0_i32_129_r1 : BitVec 32 := 0#32
  ![v164_r1.toNat, 0, 0]
def k0_off25 (arg15_r1 : BitVec 32) : Fin 2 → Nat :=
  let c200_i32_127_r1 : BitVec 32 := 200#32
  let true_92_r1 : BitVec 1 := 1#1
  let true_87_r1 : BitVec 1 := 1#1
  let true_82_r1 : BitVec 1 := 1#1
  let c1_i32_81_r1 : BitVec 32 := 1#32
  let v85_r1 : BitVec 32 := Scalar.addi arg15_r1 c1_i32_81_r1
  let v86_r1 : BitVec 32 := Scalar.select true_82_r1 v85_r1 arg15_r1
  let c50_i32_83_r1 : BitVec 32 := 50#32
  let v87_r1 : BitVec 1 := Scalar.cmpi .eq v86_r1 c50_i32_83_r1
  let c0_i32_84_r1 : BitVec 32 := 0#32
  let v88_r1 : BitVec 32 := Scalar.select v87_r1 c0_i32_84_r1 v86_r1
  let c1_i32_86_r1 : BitVec 32 := 1#32
  let v90_r1 : BitVec 32 := Scalar.addi v88_r1 c1_i32_86_r1
  let v91_r1 : BitVec 32 := Scalar.select true_87_r1 v90_r1 v88_r1
  let c50_i32_88_r1 : BitVec 32 := 50#32
  let v92_r1 : BitVec 1 := Scalar.cmpi .eq v91_r1 c50_i32_88_r1
  let c0_i32_89_r1 : BitVec 32 := 0#32
  let v93_r1 : BitVec 32 := Scalar.select v92_r1 c0_i32_89_r1 v91_r1
  let c1_i32_91_r1 : BitVec 32 := 1#32
  let v95_r1 : BitVec 32 := Scalar.addi v93_r1 c1_i32_91_r1
  let v96_r1 : BitVec 32 := Scalar.select true_92_r1 v95_r1 v93_r1
  let c50_i32_93_r1 : BitVec 32 := 50#32
  let v97_r1 : BitVec 1 := Scalar.cmpi .eq v96_r1 c50_i32_93_r1
  let c0_i32_94_r1 : BitVec 32 := 0#32
  let v98_r1 : BitVec 32 := Scalar.select v97_r1 c0_i32_94_r1 v96_r1
  let c0_i32_95_r1 : BitVec 32 := 0#32
  let v99_r1 : BitVec 32 := Scalar.addi v98_r1 c0_i32_95_r1
  let v165_r1 : BitVec 32 := Scalar.muli c200_i32_127_r1 v99_r1
  let c0_i32_130_r1 : BitVec 32 := 0#32
  ![v165_r1.toNat, 0]
def k0_off26 (arg14_r1 : BitVec 32) : Fin 1 → Nat :=
  let c4_i32_127_r1 : BitVec 32 := 4#32
  let v165_r1 : BitVec 32 := Scalar.remui arg14_r1 c4_i32_127_r1
  ![v165_r1.toNat]
def k0_cond11 (k0_t2 : Fin k0_t2_loop.trips) (arg15_r1 : BitVec 32) : BitVec 1 :=
  let c0_i32_75_r1 : BitVec 32 := 0#32
  let v79_r1 : BitVec 32 := Scalar.addi arg15_r1 c0_i32_75_r1
  let true_77_r1 : BitVec 1 := 1#1
  let c1_i32_76_r1 : BitVec 32 := 1#32
  let v80_r1 : BitVec 32 := Scalar.subi arg15_r1 c1_i32_76_r1
  let v81_r1 : BitVec 32 := Scalar.select true_77_r1 v80_r1 arg15_r1
  let c_m1_i32_78_r1 : BitVec 32 := 4294967295#32
  let v82_r1 : BitVec 1 := Scalar.cmpi .eq v81_r1 c_m1_i32_78_r1
  let c49_i32_79_r1 : BitVec 32 := 49#32
  let v83_r1 : BitVec 32 := Scalar.select v82_r1 c49_i32_79_r1 v81_r1
  let c0_i32_80_r1 : BitVec 32 := 0#32
  let v84_r1 : BitVec 32 := Scalar.addi v83_r1 c0_i32_80_r1
  let v115_r1 : BitVec 1 := Scalar.cmpi .ne v79_r1 v84_r1
  let c0_i32_39_r1 : BitVec 32 := 0#32
  let c1_i32_41_r1 : BitVec 32 := 1#32
  let arg12_r1 : BitVec 32 := Scf.iv c0_i32_39_r1 c1_i32_41_r1 k0_t2
  let c0_i32_73_r1 : BitVec 32 := 0#32
  let v77_r1 : BitVec 1 := Scalar.cmpi .eq arg12_r1 c0_i32_73_r1
  let v116_r1 : BitVec 1 := Scalar.ori v115_r1 v77_r1
  let c0_i32_106_r1 : BitVec 32 := 0#32
  let v117_r1 : BitVec 1 := Scalar.cmpi .sge arg12_r1 c0_i32_106_r1
  let v118_r1 : BitVec 1 := Scalar.andi v116_r1 v117_r1
  let v119_r1 : BitVec 32 := Scalar.extui v118_r1
  let c0_i32_107_r1 : BitVec 32 := 0#32
  let v120_r1 : BitVec 1 := Scalar.cmpi .ne v119_r1 c0_i32_107_r1
  v120_r1

def k0_off27 (arg14_r1 : BitVec 32) : Fin 3 → Nat :=
  let c4_i32_127_r1 : BitVec 32 := 4#32
  let v165_r1 : BitVec 32 := Scalar.remui arg14_r1 c4_i32_127_r1
  let c0_i32_128_r1 : BitVec 32 := 0#32
  let c0_i32_129_r1 : BitVec 32 := 0#32
  ![v165_r1.toNat, 0, 0]
def k0_off28 (arg15_r1 : BitVec 32) : Fin 2 → Nat :=
  let c200_i32_126_r1 : BitVec 32 := 200#32
  let c0_i32_75_r1 : BitVec 32 := 0#32
  let v79_r1 : BitVec 32 := Scalar.addi arg15_r1 c0_i32_75_r1
  let v164_r1 : BitVec 32 := Scalar.muli c200_i32_126_r1 v79_r1
  let c0_i32_130_r1 : BitVec 32 := 0#32
  ![v164_r1.toNat, 0]
def k0_off29 (arg14_r1 : BitVec 32) : Fin 3 → Nat :=
  let c4_i32_108_r1 : BitVec 32 := 4#32
  let v121_r1 : BitVec 32 := Scalar.remui arg14_r1 c4_i32_108_r1
  let v122_r1 : Index := Scalar.indexCast v121_r1
  let c0_r1 : Index := 0#32
  let c0_109_r1 : Index := 0#32
  ![v122_r1.toNat, 0, 0]

def k0_chk4 (arg14_r1 : BitVec 32) : Prop :=
  (∀ a, (k0_off29 arg14_r1) a + S1x200x10000.size a ≤ S4x200x10000.size a)
theorem k0_off29_inb : ∀ (arg14_r1 : BitVec 32) (k0_hw4 : k0_chk4 arg14_r1), ∀ a, (k0_off29 arg14_r1) a + S1x200x10000.size a ≤ S4x200x10000.size a := fun arg14_r1 k0_hw4 => k0_hw4

def k0_off30 (arg15_r1 : BitVec 32) : Fin 2 → Nat :=
  let c0_i32_75_r1 : BitVec 32 := 0#32
  let v79_r1 : BitVec 32 := Scalar.addi arg15_r1 c0_i32_75_r1
  let c200_i32_r1 : BitVec 32 := 200#32
  let v142_r1 : BitVec 32 := Scalar.muli v79_r1 c200_i32_r1
  let v143_r1 : Index := Scalar.indexCast v142_r1
  let c0_116_r1 : Index := 0#32
  ![v143_r1.toNat, 0]

def k0_chk3 (k0_t2 : Fin k0_t2_loop.trips) (arg13_r1 : BitVec 32) (arg14_r1 : BitVec 32) (arg15_r1 : BitVec 32) : Prop :=
  (∀ (k0_h10 : k0_cond10 k0_t2 arg15_r1 = 1#1), ∀ a, (k0_off23 arg13_r1) a + S1.size a ≤ S4.size a) ∧
  (∀ (k0_h10 : k0_cond10 k0_t2 arg15_r1 = 1#1), ∀ a, (k0_off24 arg13_r1) a + S1x200x10000.size a ≤ S4x200x10000.size a) ∧
  (∀ (k0_h10 : k0_cond10 k0_t2 arg15_r1 = 1#1), ∀ a, (k0_off25 arg15_r1) a + S200x10000.size a ≤ S10000x10000.size a) ∧
  (∀ (k0_h11 : k0_cond11 k0_t2 arg15_r1 = 1#1), ∀ a, (k0_off26 arg14_r1) a + S1.size a ≤ S4.size a) ∧
  (∀ (k0_h11 : k0_cond11 k0_t2 arg15_r1 = 1#1), ∀ a, (k0_off27 arg14_r1) a + S1x200x10000.size a ≤ S4x200x10000.size a) ∧
  (∀ (k0_h11 : k0_cond11 k0_t2 arg15_r1 = 1#1), ∀ a, (k0_off28 arg15_r1) a + S200x10000.size a ≤ S10000x10000.size a) ∧
  (∀ a, (k0_off30 arg15_r1) a + S200x16.size a ≤ S10000x16.size a)
theorem k0_off23_inb : ∀ (k0_t2 : Fin k0_t2_loop.trips) (arg13_r1 : BitVec 32) (arg14_r1 : BitVec 32) (arg15_r1 : BitVec 32) (k0_hw3 : k0_chk3 k0_t2 arg13_r1 arg14_r1 arg15_r1), ∀ (k0_h10 : k0_cond10 k0_t2 arg15_r1 = 1#1), ∀ a, (k0_off23 arg13_r1) a + S1.size a ≤ S4.size a := fun k0_t2 arg13_r1 arg14_r1 arg15_r1 k0_hw3 k0_h10 => k0_hw3.1 k0_h10
theorem k0_off24_inb : ∀ (k0_t2 : Fin k0_t2_loop.trips) (arg13_r1 : BitVec 32) (arg14_r1 : BitVec 32) (arg15_r1 : BitVec 32) (k0_hw3 : k0_chk3 k0_t2 arg13_r1 arg14_r1 arg15_r1), ∀ (k0_h10 : k0_cond10 k0_t2 arg15_r1 = 1#1), ∀ a, (k0_off24 arg13_r1) a + S1x200x10000.size a ≤ S4x200x10000.size a := fun k0_t2 arg13_r1 arg14_r1 arg15_r1 k0_hw3 k0_h10 => k0_hw3.2.1 k0_h10
theorem k0_off25_inb : ∀ (k0_t2 : Fin k0_t2_loop.trips) (arg13_r1 : BitVec 32) (arg14_r1 : BitVec 32) (arg15_r1 : BitVec 32) (k0_hw3 : k0_chk3 k0_t2 arg13_r1 arg14_r1 arg15_r1), ∀ (k0_h10 : k0_cond10 k0_t2 arg15_r1 = 1#1), ∀ a, (k0_off25 arg15_r1) a + S200x10000.size a ≤ S10000x10000.size a := fun k0_t2 arg13_r1 arg14_r1 arg15_r1 k0_hw3 k0_h10 => k0_hw3.2.2.1 k0_h10
theorem k0_off26_inb : ∀ (k0_t2 : Fin k0_t2_loop.trips) (arg13_r1 : BitVec 32) (arg14_r1 : BitVec 32) (arg15_r1 : BitVec 32) (k0_hw3 : k0_chk3 k0_t2 arg13_r1 arg14_r1 arg15_r1), ∀ (k0_h11 : k0_cond11 k0_t2 arg15_r1 = 1#1), ∀ a, (k0_off26 arg14_r1) a + S1.size a ≤ S4.size a := fun k0_t2 arg13_r1 arg14_r1 arg15_r1 k0_hw3 k0_h11 => k0_hw3.2.2.2.1 k0_h11
theorem k0_off27_inb : ∀ (k0_t2 : Fin k0_t2_loop.trips) (arg13_r1 : BitVec 32) (arg14_r1 : BitVec 32) (arg15_r1 : BitVec 32) (k0_hw3 : k0_chk3 k0_t2 arg13_r1 arg14_r1 arg15_r1), ∀ (k0_h11 : k0_cond11 k0_t2 arg15_r1 = 1#1), ∀ a, (k0_off27 arg14_r1) a + S1x200x10000.size a ≤ S4x200x10000.size a := fun k0_t2 arg13_r1 arg14_r1 arg15_r1 k0_hw3 k0_h11 => k0_hw3.2.2.2.2.1 k0_h11
theorem k0_off28_inb : ∀ (k0_t2 : Fin k0_t2_loop.trips) (arg13_r1 : BitVec 32) (arg14_r1 : BitVec 32) (arg15_r1 : BitVec 32) (k0_hw3 : k0_chk3 k0_t2 arg13_r1 arg14_r1 arg15_r1), ∀ (k0_h11 : k0_cond11 k0_t2 arg15_r1 = 1#1), ∀ a, (k0_off28 arg15_r1) a + S200x10000.size a ≤ S10000x10000.size a := fun k0_t2 arg13_r1 arg14_r1 arg15_r1 k0_hw3 k0_h11 => k0_hw3.2.2.2.2.2.1 k0_h11
theorem k0_off30_inb : ∀ (k0_t2 : Fin k0_t2_loop.trips) (arg13_r1 : BitVec 32) (arg14_r1 : BitVec 32) (arg15_r1 : BitVec 32) (k0_hw3 : k0_chk3 k0_t2 arg13_r1 arg14_r1 arg15_r1), ∀ a, (k0_off30 arg15_r1) a + S200x16.size a ≤ S10000x16.size a := fun k0_t2 arg13_r1 arg14_r1 arg15_r1 k0_hw3 => k0_hw3.2.2.2.2.2.2

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S10000x64, .f32⟩
  | .hbm, ⟨8, _⟩ => ⟨S10000x64, .f32⟩
  | .hbm, ⟨9, _⟩ => ⟨S1x64, .f32⟩
  | .hbm, ⟨10, _⟩ => ⟨S10000x64, .f32⟩
  | .hbm, ⟨11, _⟩ => ⟨S10000x64, .f32⟩
  | .hbm, ⟨12, _⟩ => ⟨S_, .f32⟩
  | .hbm, ⟨13, _⟩ => ⟨S10000x64, .f32⟩
  | .hbm, ⟨14, _⟩ => ⟨S10000x64, .f32⟩
  | .hbm, ⟨15, _⟩ => ⟨S10000x16, .f32⟩
  | .hbm, ⟨16, _⟩ => ⟨S10000x16, .f32⟩
  | .hbm, ⟨17, _⟩ => ⟨S1x16, .f32⟩
  | .hbm, ⟨18, _⟩ => ⟨S10000x16, .f32⟩
  | .hbm, ⟨19, _⟩ => ⟨S10000x16, .f32⟩
  | .hbm, ⟨20, _⟩ => ⟨S10000x16, .f32⟩
  | .hbm, ⟨21, _⟩ => ⟨S_, .f32⟩
  | .hbm, ⟨22, _⟩ => ⟨S10000, .f32⟩
  | .hbm, ⟨23, _⟩ => ⟨S10000x1, .f32⟩
  | .hbm, ⟨24, _⟩ => ⟨S10000x1, .f32⟩
  | .hbm, ⟨25, _⟩ => ⟨S10000x16, .f32⟩
  | .hbm, ⟨26, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Words.lean ====
/-
  The words the two counted loops carry, in closed form.

  Each `emit_pipeline` loop carries three words: how many row blocks it has started fetching, how many it has waited
  for, and the number of the block it works on. Before trip `k` of the fifty they are `min (k + 3) 50`, `k` and
  `k mod 50`. Every offset, condition and side condition the body computes from them is decided here once for all
  trips: the block fetched ahead is `k + 3` while it exists, the block waited for is `k`, both through slot number
  modulo four.
-/
module

public import proofs.«01_k».proof.Proof.Gen.KernelIdeal
public import proofs.«01_k».proof.Proof.Gen.KernelIdeal.Skeleton
public import Idealize.ShloMosaic.Lib.Ring
public import Idealize.ShloMosaic.Lib.Ring.Trips
public import Idealize.ShloMosaic.Lib.Affine
public import Idealize.ShloMosaic.Lib.Tactic

@[expose] public section

set_option maxRecDepth 16384
set_option synthInstance.maxSize 4096

noncomputable section

namespace Cert.Proof.Stream

open Cert.KernelIdeal Cert.KernelIdeal.Gen
open Idealize.ShloMosaic

/-- Where row block `b` of an adjacency matrix starts. -/
abbrev blkOff (b : Fin 50) : Fin 2 → Nat := ![200 * b.val, 0]
/-- Where slot `s` of a four-slot buffer starts. -/
abbrev slotOff (s : Fin 4) : Fin 3 → Nat := ![s.val, 0, 0]
/-- Where slot `s`'s semaphore is. -/
abbrev semOff (s : Fin 4) : Fin 1 → Nat := ![s.val]

/-- The three carried words before trip `k`. -/
abbrev wIss (k : ℕ) : BitVec 32 := BitVec.ofNat 32 (min (k + 3) 50)
abbrev wGot (k : ℕ) : BitVec 32 := BitVec.ofNat 32 k
abbrev wBlk (k : ℕ) : BitVec 32 := BitVec.ofNat 32 (k % 50)
abbrev carry (k : ℕ) : BitVec 32 × BitVec 32 × BitVec 32 := (wIss k, wGot k, wBlk k)

theorem trips1 : k0_t1_loop.trips = 50 := by decide +kernel
theorem trips2 : k0_t2_loop.trips = 50 := by decide +kernel

/-! ## The first loop -/

theorem slots1 : ∀ k : Fin k0_t1_loop.trips,
    k0_off12 (wGot k) = semOff (Ring.sl 4 k) ∧ k0_off13 (wGot k) = slotOff (Ring.sl 4 k)
    ∧ k0_off15 (wGot k) = slotOff (Ring.sl 4 k) ∧ k0_off14 (wBlk k) = blkOff (Ring.bk 50 k)
    ∧ k0_off16 (wBlk k) = blkOff (Ring.bk 50 k) := by decide +kernel
theorem ahead1 : ∀ k : Fin k0_t1_loop.trips, k.val < 47 →
    k0_off9 (wIss k) = semOff (Ring.sl 4 (k + 3)) ∧ k0_off10 (wIss k) = slotOff (Ring.sl 4 (k + 3))
    ∧ k0_off11 (wBlk k) = blkOff (Ring.bk 50 (k + 3)) := by decide +kernel
theorem issue1 : ∀ k : Fin k0_t1_loop.trips, k.val < 47 → k0_cond3 k (wBlk k) = 1#1 := by decide +kernel
theorem noIssue1 : ∀ k : Fin k0_t1_loop.trips, ¬k.val < 47 → ¬k0_cond3 k (wBlk k) = 1#1 := by decide +kernel
theorem wait1 : ∀ k : Fin k0_t1_loop.trips, k0_cond4 k (wBlk k) = 1#1 := by decide +kernel
theorem slotChk1 : ∀ k : Fin k0_t1_loop.trips, k0_chk2 (wGot k) := by decide +kernel
theorem tripChk1 : ∀ k : Fin k0_t1_loop.trips, k0_chk1 k (wIss k) (wGot k) (wBlk k) := by decide +kernel

/-! ## The second loop -/

theorem slots2 : ∀ k : Fin k0_t2_loop.trips,
    k0_off26 (wGot k) = semOff (Ring.sl 4 k) ∧ k0_off27 (wGot k) = slotOff (Ring.sl 4 k)
    ∧ k0_off29 (wGot k) = slotOff (Ring.sl 4 k) ∧ k0_off28 (wBlk k) = blkOff (Ring.bk 50 k)
    ∧ k0_off30 (wBlk k) = blkOff (Ring.bk 50 k) := by decide +kernel
theorem ahead2 : ∀ k : Fin k0_t2_loop.trips, k.val < 47 →
    k0_off23 (wIss k) = semOff (Ring.sl 4 (k + 3)) ∧ k0_off24 (wIss k) = slotOff (Ring.sl 4 (k + 3))
    ∧ k0_off25 (wBlk k) = blkOff (Ring.bk 50 (k + 3)) := by decide +kernel
theorem issue2 : ∀ k : Fin k0_t2_loop.trips, k.val < 47 → k0_cond10 k (wBlk k) = 1#1 := by decide +kernel
theorem noIssue2 : ∀ k : Fin k0_t2_loop.trips, ¬k.val < 47 → ¬k0_cond10 k (wBlk k) = 1#1 := by decide +kernel
theorem wait2 : ∀ k : Fin k0_t2_loop.trips, k0_cond11 k (wBlk k) = 1#1 := by decide +kernel
theorem slotChk2 : ∀ k : Fin k0_t2_loop.trips, k0_chk4 (wGot k) := by decide +kernel
theorem tripChk2 : ∀ k : Fin k0_t2_loop.trips, k0_chk3 k (wIss k) (wGot k) (wBlk k) := by decide +kernel

end Cert.Proof.Stream

end
-- ==== Proof.Names.lean ====
/-
  The pieces the streaming loops move, under names.

  A row block of an adjacency matrix in HBM, a slot of a four-slot VMEM buffer and that slot's DMA semaphore, each as
  the body slices it; the equations by which the run reads the body's slices as these; and the separation-logic
  statements made of them: a block at home, a slot held, a slot's cell at zero, and a slot in flight with a block.
-/
module

public import proofs.«01_k».proof.Proof.Words
public import Idealize.ShloMosaic.Lib.Pipeline.KitQuiescent

@[expose] public section

set_option maxRecDepth 16384

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

theorem blkOff_inb (b : Fin 50) : ∀ a, blkOff b a + S200x10000.size a ≤ S10000x10000.size a := by
  have := b.isLt; intro a
  match a with
  | ⟨0, _⟩ => show 200 * b.val + 200 ≤ 10000; omega
  | ⟨1, _⟩ => show 0 + 10000 ≤ 10000; omega
theorem slotOff_inb (s : Fin 4) : ∀ a, slotOff s a + S1x200x10000.size a ≤ S4x200x10000.size a := by
  have := s.isLt; intro a
  match a with
  | ⟨0, _⟩ => show s.val + 1 ≤ 4; omega
  | ⟨1, _⟩ => show 0 + 200 ≤ 200; omega
  | ⟨2, _⟩ => show 0 + 10000 ≤ 10000; omega
theorem semOff_inb (s : Fin 4) : ∀ a, semOff s a + S1.size a ≤ S4.size a := by
  have := s.isLt; intro a
  match a with
  | ⟨0, _⟩ => show s.val + 1 ≤ 4; omega

/-- Row block `b` of the matrix `A`, as the body slices it. -/
def blk (A : Memref sig .tc .hbm S10000x10000 .f32) (b : Fin 50) : Memref sig .tc .hbm S200x10000 .f32 :=
  A.slice (Rect.unit (s := S10000x10000) (blkOff b) S200x10000.size (blkOff_inb b)) (fun _ => rfl)
/-- Slot `s` of the buffer `B`, as the body slices and squeezes it. -/
def slot (B : Memref sig .tc .vmem S4x200x10000 .f32) (s : Fin 4) : Memref sig .tc .vmem S200x10000 .f32 :=
  (B.slice (Rect.unit (s := S4x200x10000) (slotOff s) S1x200x10000.size (slotOff_inb s)) (fun _ => rfl)).squeeze S200x10000 squeezes_S1x200x10000_S200x10000
/-- Slot `s`'s DMA semaphore of the array `C`. -/
def cell (C : DmaSems sig S4) (s : Fin 4) : DmaSems sig S_ :=
  (C.slice (Rect.unit (s := S4) (semOff s) S1.size (semOff_inb s))).squeeze S_ squeezes_S1_S_

instance (s : Fin 4) : ClosedOff (slotOff s) := ⟨slotOff s, rfl⟩
instance (b : Fin 50) : ClosedOff (blkOff b) := ⟨blkOff b, rfl⟩
instance (k : Fin k0_t1_loop.trips) : ClosedOff (k0_off15 (wGot k)) := ⟨slotOff (Ring.sl 4 k), (slots1 k).2.2.1⟩
instance (k : Fin k0_t1_loop.trips) : ClosedOff (k0_off16 (wBlk k)) := ⟨blkOff (Ring.bk 50 k), (slots1 k).2.2.2.2⟩
instance (k : Fin k0_t2_loop.trips) : ClosedOff (k0_off29 (wGot k)) := ⟨slotOff (Ring.sl 4 k), (slots2 k).2.2.1⟩
instance (k : Fin k0_t2_loop.trips) : ClosedOff (k0_off30 (wBlk k)) := ⟨blkOff (Ring.bk 50 k), (slots2 k).2.2.2.2⟩

/-! ## The body's slices are these -/

section Canon
variable (A : Memref sig .tc .hbm S10000x10000 .f32) (B : Memref sig .tc .vmem S4x200x10000 .f32) (C : DmaSems sig S4)

theorem cell_congr {off : Fin 1 → Nat} {s : Fin 4} (e : off = semOff s) (hh) :
    (C.slice (Rect.unit (s := S4) off S1.size hh)).squeeze S_ squeezes_S1_S_ = cell C s :=
  congrArg (fun A : DmaSems sig S1 => A.squeeze S_ squeezes_S1_S_) (SemArray.slice_unit_congr _ e _ _)
theorem slot_congr {off : Fin 3 → Nat} {s : Fin 4} (e : off = slotOff s) (hh hs) :
    (B.slice (Rect.unit (s := S4x200x10000) off S1x200x10000.size hh) hs).squeeze S200x10000 squeezes_S1x200x10000_S200x10000 = slot B s :=
  congrArg (fun M : Memref sig .tc .vmem S1x200x10000 .f32 => M.squeeze S200x10000 squeezes_S1x200x10000_S200x10000) (Memref.slice_unit_congr _ e _ _ _ _)
theorem blk_congr {off : Fin 2 → Nat} {b : Fin 50} (e : off = blkOff b) (hh hs) :
    A.slice (Rect.unit (s := S10000x10000) off S200x10000.size hh) hs = blk A b := Memref.slice_unit_congr _ e _ _ hs (fun _ => rfl)

-- the blocks the two loops' openings fetch
@[sl_canon] theorem cell0 (hh) : (C.slice (Rect.unit (s := S4) k0_off1 S1.size hh)).squeeze S_ squeezes_S1_S_ = cell C 0 := cell_congr C (by decide +kernel) _
@[sl_canon] theorem slot0 (hh hs) : (B.slice (Rect.unit (s := S4x200x10000) k0_off2 S1x200x10000.size hh) hs).squeeze S200x10000 squeezes_S1x200x10000_S200x10000 = slot B 0 := slot_congr B (by decide +kernel) _ _
@[sl_canon] theorem blk0 (hh hs) : A.slice (Rect.unit (s := S10000x10000) ![0, 0] S200x10000.size hh) hs = blk A 0 := blk_congr A (by decide +kernel) _ _
@[sl_canon] theorem cell1 (hh) : (C.slice (Rect.unit (s := S4) k0_off3 S1.size hh)).squeeze S_ squeezes_S1_S_ = cell C 1 := cell_congr C (by decide +kernel) _
@[sl_canon] theorem slot1 (hh hs) : (B.slice (Rect.unit (s := S4x200x10000) k0_off4 S1x200x10000.size hh) hs).squeeze S200x10000 squeezes_S1x200x10000_S200x10000 = slot B 1 := slot_congr B (by decide +kernel) _ _
@[sl_canon] theorem blk1 (hh hs) : A.slice (Rect.unit (s := S10000x10000) k0_off5 S200x10000.size hh) hs = blk A 1 := blk_congr A (by decide +kernel) _ _
@[sl_canon] theorem cell2 (hh) : (C.slice (Rect.unit (s := S4) k0_off6 S1.size hh)).squeeze S_ squeezes_S1_S_ = cell C 2 := cell_congr C (by decide +kernel) _
@[sl_canon] theorem slot2 (hh hs) : (B.slice (Rect.unit (s := S4x200x10000) k0_off7 S1x200x10000.size hh) hs).squeeze S200x10000 squeezes_S1x200x10000_S200x10000 = slot B 2 := slot_congr B (by decide +kernel) _ _
@[sl_canon] theorem blk2 (hh hs) : A.slice (Rect.unit (s := S10000x10000) k0_off8 S200x10000.size hh) hs = blk A 2 := blk_congr A (by decide +kernel) _ _
@[sl_canon] theorem cell1' (hh) : (C.slice (Rect.unit (s := S4) k0_off17 S1.size hh)).squeeze S_ squeezes_S1_S_ = cell C 1 := cell_congr C (by decide +kernel) _
@[sl_canon] theorem slot1' (hh hs) : (B.slice (Rect.unit (s := S4x200x10000) k0_off18 S1x200x10000.size hh) hs).squeeze S200x10000 squeezes_S1x200x10000_S200x10000 = slot B 1 := slot_congr B (by decide +kernel) _ _
@[sl_canon] theorem blk1' (hh hs) : A.slice (Rect.unit (s := S10000x10000) k0_off19 S200x10000.size hh) hs = blk A 1 := blk_congr A (by decide +kernel) _ _
@[sl_canon] theorem cell2' (hh) : (C.slice (Rect.unit (s := S4) k0_off20 S1.size hh)).squeeze S_ squeezes_S1_S_ = cell C 2 := cell_congr C (by decide +kernel) _
@[sl_canon] theorem slot2' (hh hs) : (B.slice (Rect.unit (s := S4x200x10000) k0_off21 S1x200x10000.size hh) hs).squeeze S200x10000 squeezes_S1x200x10000_S200x10000 = slot B 2 := slot_congr B (by decide +kernel) _ _
@[sl_canon] theorem blk2' (hh hs) : A.slice (Rect.unit (s := S10000x10000) k0_off22 S200x10000.size hh) hs = blk A 2 := blk_congr A (by decide +kernel) _ _

-- the first loop's trip `k`
section
variable (k : Fin k0_t1_loop.trips)
@[sl_canon] theorem cellW (hh) : (C.slice (Rect.unit (s := S4) (k0_off12 (wGot k)) S1.size hh)).squeeze S_ squeezes_S1_S_ = cell C (Ring.sl 4 k) := cell_congr C (slots1 k).1 _
@[sl_canon] theorem slotW (hh hs) : (B.slice (Rect.unit (s := S4x200x10000) (k0_off13 (wGot k)) S1x200x10000.size hh) hs).squeeze S200x10000 squeezes_S1x200x10000_S200x10000 = slot B (Ring.sl 4 k) := slot_congr B (slots1 k).2.1 _ _
@[sl_canon] theorem blkW (hh hs) : A.slice (Rect.unit (s := S10000x10000) (k0_off14 (wBlk k)) S200x10000.size hh) hs = blk A (Ring.bk 50 k) := blk_congr A (slots1 k).2.2.2.1 _ _
@[sl_canon] theorem cellI (h : k.val < 47) (hh) : (C.slice (Rect.unit (s := S4) (k0_off9 (wIss k)) S1.size hh)).squeeze S_ squeezes_S1_S_ = cell C (Ring.sl 4 (k + 3)) := cell_congr C (ahead1 k h).1 _
@[sl_canon] theorem slotI (h : k.val < 47) (hh hs) : (B.slice (Rect.unit (s := S4x200x10000) (k0_off10 (wIss k)) S1x200x10000.size hh) hs).squeeze S200x10000 squeezes_S1x200x10000_S200x10000 = slot B (Ring.sl 4 (k + 3)) := slot_congr B (ahead1 k h).2.1 _ _
@[sl_canon] theorem blkI (h : k.val < 47) (hh hs) : A.slice (Rect.unit (s := S10000x10000) (k0_off11 (wBlk k)) S200x10000.size hh) hs = blk A (Ring.bk 50 (k + 3)) := blk_congr A (ahead1 k h).2.2 _ _
end

-- the second loop's trip `k`
section
variable (k : Fin k0_t2_loop.trips)
@[sl_canon] theorem cellW' (hh) : (C.slice (Rect.unit (s := S4) (k0_off26 (wGot k)) S1.size hh)).squeeze S_ squeezes_S1_S_ = cell C (Ring.sl 4 k) := cell_congr C (slots2 k).1 _
@[sl_canon] theorem slotW' (hh hs) : (B.slice (Rect.unit (s := S4x200x10000) (k0_off27 (wGot k)) S1x200x10000.size hh) hs).squeeze S200x10000 squeezes_S1x200x10000_S200x10000 = slot B (Ring.sl 4 k) := slot_congr B (slots2 k).2.1 _ _
@[sl_canon] theorem blkW' (hh hs) : A.slice (Rect.unit (s := S10000x10000) (k0_off28 (wBlk k)) S200x10000.size hh) hs = blk A (Ring.bk 50 k) := blk_congr A (slots2 k).2.2.2.1 _ _
@[sl_canon] theorem cellI' (h : k.val < 47) (hh) : (C.slice (Rect.unit (s := S4) (k0_off23 (wIss k)) S1.size hh)).squeeze S_ squeezes_S1_S_ = cell C (Ring.sl 4 (k + 3)) := cell_congr C (ahead2 k h).1 _
@[sl_canon] theorem slotI' (h : k.val < 47) (hh hs) : (B.slice (Rect.unit (s := S4x200x10000) (k0_off24 (wIss k)) S1x200x10000.size hh) hs).squeeze S200x10000 squeezes_S1x200x10000_S200x10000 = slot B (Ring.sl 4 (k + 3)) := slot_congr B (ahead2 k h).2.1 _ _
@[sl_canon] theorem blkI' (h : k.val < 47) (hh hs) : A.slice (Rect.unit (s := S10000x10000) (k0_off25 (wBlk k)) S200x10000.size hh) hs = blk A (Ring.bk 50 (k + 3)) := blk_congr A (ahead2 k h).2.2 _ _
end

end Canon

/-! ## The statements: a block at home, a slot held, its cell, a slot in flight -/

section Pieces
variable (c : Dev nD) (A : Memref sig .tc .hbm S10000x10000 .f32) (B : Memref sig .tc .vmem S4x200x10000 .f32) (C : DmaSems sig S4)
  (XA : Buf (Elt F) (A.view.loc (c : Thread nD τ)))

/-- The amount one block's transfer adds to its semaphore. -/
abbrev NN : ℕ := 252800
/-- Slot `s`'s cell at zero. -/
abbrev cellP (s : Fin 4) : sProp 𝕄 := semVal ((c : Thread nD τ), SemLoc.dma (cell C s).sem) 0
/-- Slot `s` held at `f`. -/
abbrev slotP (s : Fin 4) (f : Buf (Elt F) ((slot B s).view.loc (c : Thread nD τ))) : sProp 𝕄 :=
  (slot B s).view.loc (c : Thread nD τ) ↦[(slot B s).view.set]{fullShare} f
/-- Block `b` at home, at the matrix's contents. -/
abbrev homeP (b : Fin 50) : sProp 𝕄 := (blk A b).view.loc (c : Thread nD τ) ↦[(blk A b).view.set]{fullShare} XA
/-- Block `b`'s words, as a slot takes them. -/
abbrev payload (b : Fin 50) : S200x10000.Idx → Elt F .f32 := ReadAs.same.apply ((blk A b).view.read (Elt F) XA)
/-- What block `b`'s transfer leaves in slot `s` over `f`. -/
abbrev landed (s : Fin 4) (b : Fin 50) (f : Buf (Elt F) ((slot B s).view.loc (c : Thread nD τ))) : Buf (Elt F) ((slot B s).view.loc (c : Thread nD τ)) :=
  (slot B s).view.writes (Elt F) f [⟨Rect.whole S200x10000, payload c A XA b⟩]
/-- Slot `s` in flight with block `b`, issued over `f`. -/
abbrev flightP (s : Fin 4) (b : Fin 50) (f : Buf (Elt F) ((slot B s).view.loc (c : Thread nD τ))) : sProp 𝕄 :=
  Transfers.Flight countersEmb (c : Thread nD τ) (SemLoc.dma (cell C s).sem) () NN iprop(slotP c B s (landed c A B XA s b f) ∗ homeP c A XA b)

/-- A slot free: held at anything, its cell at zero. -/
def freeP (s : Fin 4) : sProp 𝕄 := iprop((∃ f, slotP c B s f) ∗ cellP c C s)
/-- A slot in flight with block `b`. -/
def inflP (s : Fin 4) (b : Fin 50) : sProp 𝕄 := iprop(∃ f, flightP c A B C XA s b f)
/-- The slot that carries block `p`, before trip `p - j`. -/
abbrev roleP (p : ℕ) : sProp 𝕄 := Ring.roleAt (freeP c B C (Ring.sl 4 p)) (inflP c A B C XA (Ring.sl 4 p)) p

/-- The ring before trip `k`: blocks `k`, `k + 1`, `k + 2` in flight while they exist, the fourth slot free, the other
    blocks at home. -/
def ring (k : ℕ) : sProp 𝕄 :=
  iprop(bigSep (Ring.homeSet 3 k) (homeP c A XA) ∗ roleP c A B C XA k ∗ roleP c A B C XA (k + 1) ∗ roleP c A B C XA (k + 2)
    ∗ freeP c B C (Ring.sl 4 (k + 3)))

end Pieces

end Cert.Proof.Stream

end
-- ==== Proof.Steps.lean ====
/-
  How the ring moves by one trip, and what the row bands a trip writes add up to.
-/
module

public import proofs.«01_k».proof.Proof.Names
public import Idealize.ShloMosaic.Lib.VecWindow
public import Idealize.ShloMosaic.Lib.WritesUnit
public import Idealize.ShloMosaic.Lib.Pointwise.Index

@[expose] public section

set_option maxRecDepth 16384

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

theorem homes_insert {s : Finset (Fin 50)} {b : Fin 50} {Φ : Fin 50 → sProp 𝕄} (h : b ∉ s) :
    bigSep (insert b s) Φ = iprop(Φ b ∗ bigSep s Φ) := (bigSep_insert h).trans rfl

section Ring
variable (c : Dev nD) (A : Memref sig .tc .hbm S10000x10000 .f32) (B : Memref sig .tc .vmem S4x200x10000 .f32) (C : DmaSems sig S4)
  (XA : Buf (Elt F) (A.view.loc (c : Thread nD τ)))

/-- What trip `k`, issuing block `k + 3`, leaves alone. -/
def midRest (k : ℕ) : sProp 𝕄 :=
  iprop(bigSep ((Ring.homeSet 3 k).erase (Ring.bk 50 (k + 3))) (homeP c A XA) ∗ roleP c A B C XA (k + 1) ∗ roleP c A B C XA (k + 2))
/-- What trip `k`, past the last issue, leaves alone. -/
def tailRest (k : ℕ) : sProp 𝕄 :=
  iprop(bigSep (Ring.homeSet 3 k) (homeP c A XA) ∗ roleP c A B C XA (k + 1) ∗ roleP c A B C XA (k + 2) ∗ freeP c B C (Ring.sl 4 (k + 3)))

theorem ring_open (k : ℕ) (hk : k < 47) :
    ring c A B C XA k ⊢ iprop(inflP c A B C XA (Ring.sl 4 k) (Ring.bk 50 k) ∗ freeP c B C (Ring.sl 4 (k + 3)) ∗ homeP c A XA (Ring.bk 50 (k + 3))
      ∗ midRest c A B C XA k) := by
  unfold ring midRest roleP
  rw [Ring.roleAt_of_lt _ _ k (by omega), Ring.homeSet_out 3 k (by omega), homes_insert (Ring.bkL_not_mem_erase 3 k)]
  rw [← Ring.homeSet_out 3 k (by omega)]
  iintro ⟨⟨H, HR⟩, HF, H1, H2, HB⟩
  isplitl [HF]; · iexact HF
  isplitl [HB]; · iexact HB
  isplitl [H]; · iexact H
  isplitl [HR]; · iexact HR
  isplitl [H1]; · iexact H1
  iexact H2

theorem ring_close (k : ℕ) (hk : k < 47) :
    iprop(inflP c A B C XA (Ring.sl 4 (k + 3)) (Ring.bk 50 (k + 3)) ∗ freeP c B C (Ring.sl 4 k) ∗ homeP c A XA (Ring.bk 50 k)
      ∗ midRest c A B C XA k) ⊢ ring c A B C XA (k + 1) := by
  unfold ring midRest roleP
  rw [Ring.roleAt_of_lt _ _ (k + 1 + 2) (by omega), Ring.sl_succ_add 4 k 3 rfl, Ring.homeSet_succ 3 k (by omega),
    homes_insert (Ring.bk_not_mem_erase 3 k (by omega) (by decide))]
  iintro ⟨HF, HB, H, HR, H1, H2⟩
  isplitl [H HR]
  · isplitl [H]; · iexact H
    iexact HR
  isplitl [H1]; · iexact H1
  isplitl [H2]; · iexact H2
  isplitl [HF]; · iexact HF
  iexact HB

theorem ring_open_tail (k : ℕ) (hk : k < 50) :
    ring c A B C XA k ⊢ iprop(inflP c A B C XA (Ring.sl 4 k) (Ring.bk 50 k) ∗ tailRest c A B C XA k) := by
  unfold ring tailRest roleP
  rw [Ring.roleAt_of_lt _ _ k hk]
  iintro ⟨H, HF, H1, H2, HB⟩
  isplitl [HF]; · iexact HF
  isplitl [H]; · iexact H
  isplitl [H1]; · iexact H1
  isplitl [H2]; · iexact H2
  iexact HB

theorem ring_close_tail (k : ℕ) (hk : k < 50) (h3 : 47 ≤ k) :
    iprop(freeP c B C (Ring.sl 4 k) ∗ homeP c A XA (Ring.bk 50 k) ∗ tailRest c A B C XA k) ⊢ ring c A B C XA (k + 1) := by
  unfold ring tailRest roleP
  rw [Ring.roleAt_of_le _ _ (k + 1 + 2) (by omega), Ring.sl_succ_add 4 k 3 rfl, Ring.homeSet_succ_tail 3 k (by omega) hk,
    homes_insert (Ring.bk_not_mem_homeSet 3 k hk (by decide))]
  iintro ⟨HB, H, HR, H1, H2, H3⟩
  isplitl [H HR]
  · isplitl [H]; · iexact H
    iexact HR
  isplitl [H1]; · iexact H1
  isplitl [H2]; · iexact H2
  isplitl [H3]; · iexact H3
  iexact HB

/-- The ring at rest: every block at home, every slot free. -/
def idle : sProp 𝕄 :=
  iprop(bigSep Finset.univ (homeP c A XA) ∗ freeP c B C 0 ∗ freeP c B C 1 ∗ freeP c B C 2 ∗ freeP c B C 3)

theorem homes_start : (Finset.univ : Finset (Fin 50)) = insert 0 (insert 1 (insert 2 (Ring.homeSet 3 0))) := by
  ext b; simp only [Finset.mem_univ, Finset.mem_insert, Ring.mem_homeSet, true_iff, Fin.ext_iff]
  have := b.isLt
  show b.val = 0 ∨ b.val = 1 ∨ b.val = 2 ∨ _
  omega

theorem idle_open : idle c A B C XA ⊢ iprop(homeP c A XA 0 ∗ homeP c A XA 1 ∗ homeP c A XA 2 ∗ bigSep (Ring.homeSet 3 0) (homeP c A XA)
    ∗ freeP c B C 0 ∗ freeP c B C 1 ∗ freeP c B C 2 ∗ freeP c B C 3) := by
  unfold idle
  rw [homes_start, homes_insert (by decide +kernel), homes_insert (by decide +kernel), homes_insert (by decide +kernel)]
  iintro ⟨⟨H0, H1, H2, HR⟩, HF⟩
  isplitl [H0]; · iexact H0
  isplitl [H1]; · iexact H1
  isplitl [H2]; · iexact H2
  isplitl [HR]; · iexact HR
  iexact HF

/-- The first three blocks on their way: the ring before the first trip. -/
theorem ring_start : iprop(inflP c A B C XA 0 0 ∗ inflP c A B C XA 1 1 ∗ inflP c A B C XA 2 2 ∗ bigSep (Ring.homeSet 3 0) (homeP c A XA)
    ∗ freeP c B C 3) ⊢ ring c A B C XA 0 := by
  unfold ring roleP
  rw [Ring.roleAt_of_lt _ _ 0 (by omega), Ring.roleAt_of_lt _ _ (0 + 1) (by omega), Ring.roleAt_of_lt _ _ (0 + 2) (by omega)]
  iintro ⟨H0, H1, H2, HR, HF⟩
  isplitl [HR]; · iexact HR
  isplitl [H0]; · iexact H0
  isplitl [H1]; · iexact H1
  isplitl [H2]; · iexact H2
  iexact HF

/-- After the last trip the ring is at rest. -/
theorem ring_end : ring c A B C XA 50 ⊢ idle c A B C XA := by
  unfold ring roleP idle
  rw [Ring.roleAt_of_le _ _ 50 le_rfl, Ring.roleAt_of_le _ _ (50 + 1) (by omega), Ring.roleAt_of_le _ _ (50 + 2) (by omega), Ring.homeSet_last 3 50 le_rfl]
  iintro ⟨HR, H2, H3, H0, H1⟩
  isplitl [HR]; · iexact HR
  isplitl [H0]; · iexact H0
  isplitl [H1]; · iexact H1
  isplitl [H2]; · iexact H2
  iexact H3

end Ring

/-! ## Reading a landed slot -/

theorem numel_slot : S1x200x10000.numel = S200x10000.numel := by decide +kernel
/-- A row block as the body loads it: under a leading unit axis. -/
def lead (v : S200x10000.Idx → Elt F .f32) : Vec F S1x200x10000 .f32 := fun i => v (Shape.reshapeEquiv numel_slot.symm |>.symm i)

theorem slot_load (B : Memref sig .tc .vmem S4x200x10000 .f32) (s : Fin 4) {off : Fin 3 → Nat} (e : off = slotOff s)
    (inb : ∀ a, off a + S1x200x10000.size a ≤ S4x200x10000.size a) (g : B.view.ty.Contents (Elt F)) (v : S200x10000.Idx → Elt F .f32) :
    B.view.readAt (Elt F) (Rect.unit (s := S4x200x10000) off S1x200x10000.size inb).toLoadRect
      ((slot B s).view.writes (Elt F) g [⟨Rect.whole S200x10000, v⟩]) = lead v := by
  subst e
  funext i
  have h := congrFun (View.read_writes_whole (slot B s).view g v) ((Shape.reshapeEquiv numel_slot.symm).symm i)
  refine Eq.trans ?_ h
  refine Eq.trans ?_ (congrArg (fun j => B.view.readAt (Elt F) (Rect.unit (s := S4x200x10000) (slotOff s) S1x200x10000.size inb).toLoadRect
      ((slot B s).view.writes (Elt F) g [⟨Rect.whole S200x10000, v⟩]) j) ((Shape.reshapeEquiv numel_slot.symm).apply_symm_apply i).symm)
  rfl

/-! ## The row bands -/

/-- The array whose 200-row band `b` is `P b`. -/
def bands (P : Fin 50 → FVec F S200x16 .f32) : FVec F S10000x16 .f32 := fun y =>
  P ⟨(y 0).val / 200, by have : (y 0).val < 10000 := (y 0).isLt; omega⟩ (ix2 ⟨(y 0).val % 200, by omega⟩ (y 1))

/-- The rows below `200 * k` are those of `bands P`. -/
def upTo {sp : Space} (v : View sig .tc sp S10000x16 .f32) (P : Fin 50 → FVec F S200x16 .f32) (k : ℕ) (f : v.ty.Contents (Elt F)) : Prop :=
  ∀ y : S10000x16.Idx, (y 0).val < 200 * k → v.read (Elt F) f y = bands P y

theorem upTo_zero {sp : Space} (v : View sig .tc sp S10000x16 .f32) (P : Fin 50 → FVec F S200x16 .f32) (f : v.ty.Contents (Elt F)) : upTo v P 0 f :=
  fun y h => absurd h (by omega)

theorem upTo_all {sp : Space} (v : View sig .tc sp S10000x16 .f32) (P : Fin 50 → FVec F S200x16 .f32) (f : v.ty.Contents (Elt F)) (h : upTo v P 50 f) :
    v.read (Elt F) f = bands P := funext fun y => h y (y 0).isLt

theorem upTo_succ {sp : Space} (v : View sig .tc sp S10000x16 .f32) (P : Fin 50 → FVec F S200x16 .f32) (k : ℕ) (hk : k < 50)
    (f : v.ty.Contents (Elt F)) (h : upTo v P k f) {off : Fin 2 → Nat} (e : off = blkOff (Ring.bk 50 k))
    (inb : ∀ a, off a + S200x16.size a ≤ S10000x16.size a) (w : S200x16.Idx → Elt F .f32) (hw : w = P (Ring.bk 50 k)) :
    upTo v P (k + 1) (v.writes (Elt F) f [⟨Rect.unit (s := S10000x16) off S200x16.size inb, w⟩]) := by
  intro y hy
  have hv : (Ring.bk 50 k).val = k := Ring.bk_val hk
  have e' : off = ![200 * k, 0] := by rw [e]; unfold blkOff; rw [hv]
  by_cases hlt : (y 0).val < 200 * k
  · rw [View.read_writes_cons_rows_of_not_mem v f (o := 200 * k) (W := 200) inb w [] y e' rfl (Or.inl hlt)]
    exact h y hlt
  · have hx : (y 0).val - 200 * k < 200 := by omega
    rw [View.read_writes_cons_rows_of_mem v f (o := 200 * k) inb w [] y (ix2 (⟨(y 0).val - 200 * k, hx⟩ : Fin 200) (y 1)) e'
      (by show (y 0).val = 200 * k + ((y 0).val - 200 * k); omega) rfl, hw]
    unfold bands
    have h1 : (⟨(y 0).val / 200, by have : (y 0).val < 10000 := (y 0).isLt; omega⟩ : Fin 50) = Ring.bk 50 k := Fin.ext (by rw [hv]; show (y 0).val / 200 = k; omega)
    have h2 : (⟨(y 0).val % 200, by omega⟩ : Fin 200) = ⟨(y 0).val - 200 * k, hx⟩ := Fin.ext (by show (y 0).val % 200 = (y 0).val - 200 * k; omega)
    rw [h1, h2]

end Cert.Proof.Stream
end
-- ==== Proof.Trips1.lean ====
/-
  One trip of the first streaming loop, by the part of the ring it moves.
-/
module

public import proofs.«01_k».proof.Proof.Steps

@[expose] public section

set_option maxRecDepth 16384

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The two adjacency matrices in HBM, the features, and the two four-slot buffers. -/
abbrev adj1M : Memref sig .tc .hbm S10000x10000 .f32 := Memref.whole main_arg1
abbrev adj2M : Memref sig .tc .hbm S10000x10000 .f32 := Memref.whole main_arg2
abbrev xM : Memref sig .tc .hbm S10000x128 .f32 := Memref.whole main_arg0
abbrev buf1M : Memref sig .tc .vmem S4x200x10000 .f32 := Memref.whole cc0_scoped0
abbrev buf2M : Memref sig .tc .vmem S4x200x10000 .f32 := Memref.whole cc0_scoped2
abbrev xvM : Memref sig .tc .vmem S10000x128 .f32 := Memref.whole cc0_scratch0
abbrev sM : Memref sig .tc .vmem S10000x64 .f32 := Memref.whole cc0_scratch1
abbrev gM : Memref sig .tc .vmem S10000x16 .f32 := Memref.whole cc0_scratch2

/-- Whether trip `k` is the first, as the body asks it. -/
abbrev first (k : ℕ) : BitVec 1 := Scalar.cmpi .ne (Scalar.extui (Scalar.cmpi .eq (Scalar.addi (wBlk k) 0#32) 0#32) : BitVec 32) 0#32
theorem first_no : ∀ k : Fin k0_t1_loop.trips, k.val ≠ 0 → ¬ first k = 1#1 := by decide +kernel
theorem first_yes : ∀ k : Fin k0_t1_loop.trips, k.val = 0 → first k = 1#1 := by decide +kernel

section Trip
variable (c : Dev nD) (X1 : Buf (Elt F) (adj1M.view.loc (c : Thread nD τ)))
  (arg3 : Memref sig .tc .vmem S128x64 .f32) (harg3 : arg3.IsWhole) (arg4 : Memref sig .tc .vmem S1x64 .f32) (harg4 : arg4.IsWhole)
  (arg5 : Memref sig .tc .vmem S64x16 .f32) (harg5 : arg5.IsWhole) (arg6 : Memref sig .tc .vmem S1x16 .f32) (harg6 : arg6.IsWhole)
  (arg7 : Memref sig .tc .vmem S10000x16 .f32) (harg7 : arg7.IsWhole) (v8 v13 : BitVec 32)

/-- A buffer held whole at `f`. -/
abbrev at_ {sp : Space} {S : Shape} {e : EltTy} (M : Memref sig .tc sp S e) (f : Buf (Elt F) (M.view.loc (c : Thread nD τ))) : sProp 𝕄 :=
  M.view.loc (c : Thread nD τ) ↦[M.view.set]{fullShare} f

abbrev trip1 (k : Fin k0_t1_loop.trips) : Prog (TpuEff nD τ sig (Elt F) Λ₀ .tc) (BitVec 32 × BitVec 32 × BitVec 32) :=
  k0_t1_body (F := F) adj1M (Memref.isWhole_whole _) adj2M (Memref.isWhole_whole _) xM (Memref.isWhole_whole _) arg3 harg3 arg4 harg4 arg5 harg5 arg6 harg6 arg7 harg7
    xvM (Memref.isWhole_whole _) sM (Memref.isWhole_whole _) gM (Memref.isWhole_whole _) cc0_scratch3 buf1M (Memref.isWhole_whole _) cc0_scoped1
    buf2M (Memref.isWhole_whole _) cc0_scoped3 v8 v13 k (carry k)

/-- The first layer's features: `x @ W1`. -/
abbrev sVal (X0 : Buf (Elt F) (xM.view.loc (c : Thread nD τ))) (f3 : Buf (Elt F) (arg3.view.loc (c : Thread nD τ))) : S10000x64.Idx → Elt F .f32 :=
  k0_pay1 (xM.view.read (Elt F) X0) (arg3.view.read (Elt F) f3)
/-- Row band `b` of the first layer's output, as a trip computes it from its adjacency block and the features `S`. -/
abbrev gBand (S : S10000x64.Idx → Elt F .f32) (f4 : Buf (Elt F) (arg4.view.loc (c : Thread nD τ))) (f5 : Buf (Elt F) (arg5.view.loc (c : Thread nD τ)))
    (b : Fin 50) : FVec F S200x16 .f32 :=
  k0_pay4 (k0_pay2 (lead (payload c adj1M X1 b)) S (arg4.view.read (Elt F) f4) (arg5.view.read (Elt F) f5))

/-- The amount the features' copy adds to its semaphore. -/
abbrev NX : ℕ := 160000
/-- The features' copy under way, issued over `f`. -/
abbrev xFlight (X0 : Buf (Elt F) (xM.view.loc (c : Thread nD τ))) (f : Buf (Elt F) (xvM.view.loc (c : Thread nD τ))) : sProp 𝕄 :=
  Transfers.Flight countersEmb (c : Thread nD τ) (SemLoc.dma (SemArray.sem cc0_scratch3)) () NX
    iprop(at_ c xvM (xvM.view.writes (Elt F) f [⟨Rect.whole S10000x128, ReadAs.same.apply (xM.view.read (Elt F) X0)⟩]) ∗ at_ c xM X0)
/-- The features' copy under way. -/
def xInfl (X0 : Buf (Elt F) (xM.view.loc (c : Thread nD τ))) : sProp 𝕄 := iprop(∃ f, xFlight c X0 f)
/-- The features' copy home again: the copy, the features and the semaphore. -/
def xDone (X0 : Buf (Elt F) (xM.view.loc (c : Thread nD τ))) : sProp 𝕄 :=
  iprop((∃ f, at_ c xvM f) ∗ at_ c xM X0 ∗ semVal ((c : Thread nD τ), SemLoc.dma (SemArray.sem cc0_scratch3)) 0)

/-- The result array written up to band `k`. -/
def gUpTo (P : Fin 50 → FVec F S200x16 .f32) (k : ℕ) : sProp 𝕄 := iprop(∃ f, at_ c gM f ∗ ⌜upTo gM.view P k f⌝)

theorem pay1_congr {x x' : Vec F S10000x128 .f32} {w w' : Vec F S128x64 .f32} (hx : x = x') (hw : w = w') : k0_pay1 x w = k0_pay1 x' w' := by
  rw [hx, hw]
theorem pay2_congr {x x' : Vec F S1x200x10000 .f32} {y y' : Vec F S10000x64 .f32} {z z' : Vec F S1x64 .f32} {w w' : Vec F S64x16 .f32}
    (hx : x = x') (hy : y = y') (hz : z = z') (hw : w = w') : k0_pay2 x y z w = k0_pay2 x' y' z' w' := by rw [hx, hy, hz, hw]

/-- The first trip: the features' copy waited and the features computed, block 0 waited, block 3 issued, band 0 written. -/
theorem trip1_first (k : Fin k0_t1_loop.trips) (hk0 : k.val = 0)
    (f4 : Buf (Elt F) (arg4.view.loc (c : Thread nD τ))) (f5 : Buf (Elt F) (arg5.view.loc (c : Thread nD τ)))
    (X0 : Buf (Elt F) (xM.view.loc (c : Thread nD τ)))
    (f3 : Buf (Elt F) (arg3.view.loc (c : Thread nD τ))) (fs : Buf (Elt F) (sM.view.loc (c : Thread nD τ))) :
    iprop(at_ c arg3 f3 ∗ xInfl c X0 ∗ at_ c arg4 f4 ∗ at_ c arg5 f5 ∗ at_ c sM fs ∗ gUpTo c (gBand c X1 arg4 arg5 (sVal c arg3 X0 f3) f4 f5) k ∗ (∃ W, owes (c : Thread nD τ) 0 W)
      ∗ ring c adj1M buf1M cc0_scoped1 X1 k)
    ⊢ wp frame (wpE (defs₀ (F := F)) 𝒱₀ (c : Thread nD τ) none) Set.univ (trip1 arg3 harg3 arg4 harg4 arg5 harg5 arg6 harg6 arg7 harg7 v8 v13 k)
      (fun r => iprop(⌜r = carry (k.val + 1)⌝ ∗ at_ c arg3 f3 ∗ xDone c X0 ∗ at_ c arg4 f4 ∗ at_ c arg5 f5 ∗ (∃ fs', at_ c sM fs' ∗ ⌜sM.view.read (Elt F) fs' = sVal c arg3 X0 f3⌝) ∗ gUpTo c (gBand c X1 arg4 arg5 (sVal c arg3 X0 f3) f4 f5) (k.val + 1)
        ∗ (∃ W, owes (c : Thread nD τ) 0 W) ∗ ring c adj1M buf1M cc0_scoped1 X1 (k.val + 1))) := by
  have hk50 : k.val < 50 := k.isLt
  have hi := issue1 k (by omega)
  have hw := wait1 k
  have h1 := slotChk1 k
  have h2 := tripChk1 k
  refine (sep_mono .rfl (sep_mono .rfl (sep_mono .rfl (sep_mono .rfl (sep_mono .rfl (sep_mono .rfl (sep_mono .rfl (ring_open c adj1M buf1M cc0_scoped1 X1 k (by omega))))))))).trans ?_
  unfold gUpTo inflP freeP
  iintro ⟨H3, HX, H4, H5, HS, ⟨%fg, HG, %hg⟩, ⟨%W, HW⟩, ⟨%f0, HF⟩, ⟨⟨%fb, HB⟩, HC⟩, HH, HR⟩
  dsimp only [trip1, carry]
  sl_unfold [k0_t1_body]
  sl_exec
  have hx : trip1_first.sl.v124_r0 k = 1#1 := first_yes k hk0
  unfold xInfl
  icases HX with ⟨%fx, HX⟩
  sl_exec
  sl_step
  have hxv : trip1_first.sl.v162_r0 c X0 = xM.view.read (Elt F) X0 := by
    unfold trip1_first.sl.v162_r0 View.readCov
    refine (View.readAt_full xvM.view _ _).trans ?_
    exact View.read_writes_whole xvM.view _ _
  have hsv : ∀ f, sM.view.read (Elt F) (sM.view.writes (Elt F) f (trip1_first.sl.HS_1 c arg3 X0 f3)) = sVal c arg3 X0 f3 := by
    intro f
    unfold trip1_first.sl.HS_1
    refine (View.read_writes_full sM.view _ _ _ _).trans ?_
    exact pay1_congr hxv (View.readAt_full arg3.view _ _)
  have hs8 : trip1_first.sl.v128_r0 c arg3 X0 f3 = sVal c arg3 X0 f3 := by
    unfold trip1_first.sl.v128_r0 View.readCov
    exact (View.readAt_full sM.view _ _).trans (hsv _)
  isplitr; · ipureintro; exact (by decide +kernel : ∀ k : Fin k0_t1_loop.trips, k.val = 0 →
    (trip1_first.sl.v114_r0 k,
      Scalar.select (Scalar.ori (Scalar.cmpi CmpIPredicate.ne (trip1_first.sl.v79_r0 k) (trip1_first.sl.v89_r0 k)) (trip1_first.sl.v78_r0 k)) (Scalar.addi (wGot ↑k) 1#32) (wGot ↑k),
      Scalar.select (Scalar.cmpi CmpIPredicate.eq (Scalar.select (1#1) (Scalar.addi (wBlk ↑k) 1#32) (wBlk ↑k)) 50#32) (0#32)
        (Scalar.select (1#1) (Scalar.addi (wBlk ↑k) 1#32) (wBlk ↑k))) = carry (k.val + 1)) k hk0
  isplitl [H3]; · iexact H3
  isplitl [HX_dst HX_src HX]
  · unfold xDone
    isplitl [HX_dst]; · iexists _; iexact HX_dst
    isplitl [HX_src]; · iexact HX_src
    iexact HX
  isplitl [H4]; · iexact H4
  isplitl [H5]; · iexact H5
  isplitl [HS]
  · iexists _; isplitl [HS]; · iexact HS
    ipureintro
    exact hsv _
  isplitl [HG]
  · iexists _; isplitl [HG]; · iexact HG
    ipureintro
    refine upTo_succ gM.view _ k hk50 fg hg (slots1 k).2.2.2.2 _ _ (congrArg k0_pay4 ?_)
    exact pay2_congr (slot_load buf1M (Ring.sl 4 k) (slots1 k).2.2.1 _ _ _)
      hs8
      (View.readAt_full ..) (View.readAt_full ..)
  isplitl [HW]; · iexists _; iexact HW
  iapply ring_close c adj1M buf1M cc0_scoped1 X1 k (by omega)
  unfold inflP freeP
  isplitl [HC]; · iexists fb; iexact HC
  isplitl [HF_dst HF]
  · isplitl [HF_dst]; · iexists _; iexact HF_dst
    iexact HF
  isplitl [HF_src]; · iexact HF_src
  iexact HR

/-- A middle trip: block `k` waited, block `k + 3` issued, band `k` written. -/
theorem trip1_mid (k : Fin k0_t1_loop.trips) (hk0 : k.val ≠ 0) (hk : k.val < 47)
    (f4 : Buf (Elt F) (arg4.view.loc (c : Thread nD τ))) (f5 : Buf (Elt F) (arg5.view.loc (c : Thread nD τ)))
    (S : S10000x64.Idx → Elt F .f32) (fs : Buf (Elt F) (sM.view.loc (c : Thread nD τ))) (hS : sM.view.read (Elt F) fs = S) :
    iprop(at_ c arg4 f4 ∗ at_ c arg5 f5 ∗ at_ c sM fs ∗ gUpTo c (gBand c X1 arg4 arg5 S f4 f5) k ∗ (∃ W, owes (c : Thread nD τ) 0 W)
      ∗ ring c adj1M buf1M cc0_scoped1 X1 k)
    ⊢ wp frame (wpE (defs₀ (F := F)) 𝒱₀ (c : Thread nD τ) none) Set.univ (trip1 arg3 harg3 arg4 harg4 arg5 harg5 arg6 harg6 arg7 harg7 v8 v13 k)
      (fun r => iprop(⌜r = carry (k.val + 1)⌝ ∗ at_ c arg4 f4 ∗ at_ c arg5 f5 ∗ at_ c sM fs ∗ gUpTo c (gBand c X1 arg4 arg5 S f4 f5) (k.val + 1)
        ∗ (∃ W, owes (c : Thread nD τ) 0 W) ∗ ring c adj1M buf1M cc0_scoped1 X1 (k.val + 1))) := by
  subst hS
  have hk50 : k.val < 50 := k.isLt
  have hi := issue1 k (by omega)
  have hw := wait1 k
  have h1 := slotChk1 k
  have h2 := tripChk1 k
  refine (sep_mono .rfl (sep_mono .rfl (sep_mono .rfl (sep_mono .rfl (sep_mono .rfl (ring_open c adj1M buf1M cc0_scoped1 X1 k (by omega))))))).trans ?_
  unfold gUpTo inflP freeP
  iintro ⟨H4, H5, HS, ⟨%fg, HG, %hg⟩, ⟨%W, HW⟩, ⟨%f0, HF⟩, ⟨⟨%fb, HB⟩, HC⟩, HH, HR⟩
  dsimp only [trip1, carry]
  sl_unfold [k0_t1_body]
  sl_exec
  have hx : ¬ trip1_mid.sl.v124_r0 k = 1#1 := first_no k (by omega)
  sl_exec
  sl_step
  isplitr; · ipureintro; exact (by decide +kernel : ∀ k : Fin k0_t1_loop.trips, k.val < 47 →
    (trip1_mid.sl.v114_r0 k,
      Scalar.select (Scalar.ori (Scalar.cmpi CmpIPredicate.ne (trip1_mid.sl.v79_r0 k) (trip1_mid.sl.v89_r0 k)) (trip1_mid.sl.v78_r0 k)) (Scalar.addi (wGot ↑k) 1#32) (wGot ↑k),
      Scalar.select (Scalar.cmpi CmpIPredicate.eq (Scalar.select (1#1) (Scalar.addi (wBlk ↑k) 1#32) (wBlk ↑k)) 50#32) (0#32)
        (Scalar.select (1#1) (Scalar.addi (wBlk ↑k) 1#32) (wBlk ↑k))) = carry (k.val + 1)) k hk
  isplitl [H4]; · iexact H4
  isplitl [H5]; · iexact H5
  isplitl [HS]; · iexact HS
  isplitl [HG]
  · iexists _; isplitl [HG]; · iexact HG
    ipureintro
    refine upTo_succ gM.view _ k hk50 fg hg (slots1 k).2.2.2.2 _ _ (congrArg k0_pay4 ?_)
    exact pay2_congr (slot_load buf1M (Ring.sl 4 k) (slots1 k).2.2.1 _ _ _) (View.readAt_full ..) (View.readAt_full ..) (View.readAt_full ..)
  isplitl [HW]; · iexists _; iexact HW
  iapply ring_close c adj1M buf1M cc0_scoped1 X1 k (by omega)
  unfold inflP freeP
  isplitl [HC]; · iexists fb; iexact HC
  isplitl [HF_dst HF]
  · isplitl [HF_dst]; · iexists _; iexact HF_dst
    iexact HF
  isplitl [HF_src]; · iexact HF_src
  iexact HR

/-- A trip past the last issue: block `k` waited, band `k` written. -/
theorem trip1_tail (k : Fin k0_t1_loop.trips) (hk : 47 ≤ k.val)
    (f4 : Buf (Elt F) (arg4.view.loc (c : Thread nD τ))) (f5 : Buf (Elt F) (arg5.view.loc (c : Thread nD τ)))
    (S : S10000x64.Idx → Elt F .f32) (fs : Buf (Elt F) (sM.view.loc (c : Thread nD τ))) (hS : sM.view.read (Elt F) fs = S) :
    iprop(at_ c arg4 f4 ∗ at_ c arg5 f5 ∗ at_ c sM fs ∗ gUpTo c (gBand c X1 arg4 arg5 S f4 f5) k ∗ (∃ W, owes (c : Thread nD τ) 0 W)
      ∗ ring c adj1M buf1M cc0_scoped1 X1 k)
    ⊢ wp frame (wpE (defs₀ (F := F)) 𝒱₀ (c : Thread nD τ) none) Set.univ (trip1 arg3 harg3 arg4 harg4 arg5 harg5 arg6 harg6 arg7 harg7 v8 v13 k)
      (fun r => iprop(⌜r = carry (k.val + 1)⌝ ∗ at_ c arg4 f4 ∗ at_ c arg5 f5 ∗ at_ c sM fs ∗ gUpTo c (gBand c X1 arg4 arg5 S f4 f5) (k.val + 1)
        ∗ (∃ W, owes (c : Thread nD τ) 0 W) ∗ ring c adj1M buf1M cc0_scoped1 X1 (k.val + 1))) := by
  subst hS
  have hk50 : k.val < 50 := k.isLt
  have hi := noIssue1 k (by omega)
  have hw := wait1 k
  have h1 := slotChk1 k
  have h2 := tripChk1 k
  refine (sep_mono .rfl (sep_mono .rfl (sep_mono .rfl (sep_mono .rfl (sep_mono .rfl (ring_open_tail c adj1M buf1M cc0_scoped1 X1 k hk50)))))).trans ?_
  unfold gUpTo inflP
  iintro ⟨H4, H5, HS, ⟨%fg, HG, %hg⟩, ⟨%W, HW⟩, ⟨%f0, HF⟩, HR⟩
  dsimp only [trip1, carry]
  sl_unfold [k0_t1_body]
  sl_exec
  have hx : ¬ trip1_tail.sl.v124_r0 k = 1#1 := first_no k (by omega)
  sl_exec
  sl_step
  isplitr; · ipureintro; exact (by decide +kernel : ∀ k : Fin k0_t1_loop.trips, 47 ≤ k.val →
    (trip1_tail.sl.v114_r0 k,
      Scalar.select (Scalar.ori (Scalar.cmpi CmpIPredicate.ne (trip1_tail.sl.v79_r0 k) (trip1_tail.sl.v89_r0 k)) (trip1_tail.sl.v78_r0 k)) (Scalar.addi (wGot ↑k) 1#32) (wGot ↑k),
      Scalar.select (Scalar.cmpi CmpIPredicate.eq (Scalar.select (1#1) (Scalar.addi (wBlk ↑k) 1#32) (wBlk ↑k)) 50#32) (0#32)
        (Scalar.select (1#1) (Scalar.addi (wBlk ↑k) 1#32) (wBlk ↑k))) = carry (k.val + 1)) k hk
  isplitl [H4]; · iexact H4
  isplitl [H5]; · iexact H5
  isplitl [HS]; · iexact HS
  isplitl [HG]
  · iexists _; isplitl [HG]; · iexact HG
    ipureintro
    refine upTo_succ gM.view _ k hk50 fg hg (slots1 k).2.2.2.2 _ _ (congrArg k0_pay4 ?_)
    exact pay2_congr (slot_load buf1M (Ring.sl 4 k) (slots1 k).2.2.1 _ _ _) (View.readAt_full ..) (View.readAt_full ..) (View.readAt_full ..)
  isplitl [HW]; · iexists _; iexact HW
  iapply ring_close_tail c adj1M buf1M cc0_scoped1 X1 k hk50 hk
  unfold freeP
  isplitl [HF_dst HF]
  · isplitl [HF_dst]; · iexists _; iexact HF_dst
    iexact HF
  isplitl [HF_src]; · iexact HF_src
  iexact HR

/-! ## The first loop -/

/-- The features before trip `k`: on their way before the first, in VMEM and multiplied after it. -/
def feats (X0 : Buf (Elt F) (xM.view.loc (c : Thread nD τ))) (f3 : Buf (Elt F) (arg3.view.loc (c : Thread nD τ))) (k : ℕ) : sProp 𝕄 :=
  if k = 0 then iprop(xInfl c X0 ∗ ∃ f, at_ c sM f) else iprop(xDone c X0 ∗ ∃ f, at_ c sM f ∗ ⌜sM.view.read (Elt F) f = sVal c arg3 X0 f3⌝)

variable (X0 : Buf (Elt F) (xM.view.loc (c : Thread nD τ)))
  (f3 : Buf (Elt F) (arg3.view.loc (c : Thread nD τ))) (f4 : Buf (Elt F) (arg4.view.loc (c : Thread nD τ))) (f5 : Buf (Elt F) (arg5.view.loc (c : Thread nD τ)))

/-- The first loop's resources before trip `k`. -/
def loop1Inv (k : ℕ) (acc : BitVec 32 × BitVec 32 × BitVec 32) : sProp 𝕄 :=
  iprop(⌜acc = carry k⌝ ∗ at_ c arg3 f3 ∗ at_ c arg4 f4 ∗ at_ c arg5 f5 ∗ feats c arg3 X0 f3 k ∗ gUpTo c (gBand c X1 arg4 arg5 (sVal c arg3 X0 f3) f4 f5) k
    ∗ (∃ W, owes (c : Thread nD τ) 0 W) ∗ ring c adj1M buf1M cc0_scoped1 X1 k)

theorem loop1_step (k : Fin k0_t1_loop.trips) (acc : BitVec 32 × BitVec 32 × BitVec 32) :
    loop1Inv c X1 arg3 arg4 arg5 X0 f3 f4 f5 k acc ⊢ wp frame (wpE (defs₀ (F := F)) 𝒱₀ (c : Thread nD τ) none) Set.univ
      (k0_t1_body (F := F) adj1M (Memref.isWhole_whole _) adj2M (Memref.isWhole_whole _) xM (Memref.isWhole_whole _) arg3 harg3 arg4 harg4 arg5 harg5 arg6 harg6 arg7 harg7
        xvM (Memref.isWhole_whole _) sM (Memref.isWhole_whole _) gM (Memref.isWhole_whole _) cc0_scratch3 buf1M (Memref.isWhole_whole _) cc0_scoped1
        buf2M (Memref.isWhole_whole _) cc0_scoped3 v8 v13 k acc)
      (loop1Inv c X1 arg3 arg4 arg5 X0 f3 f4 f5 (k.val + 1)) := by
  unfold loop1Inv feats
  rw [if_neg (Nat.succ_ne_zero k.val)]
  by_cases hk0 : k.val = 0
  · rw [if_pos hk0]
    iintro ⟨%hacc, H3, H4, H5, ⟨HX, ⟨%fs, HS⟩⟩, HG, HW, HR⟩
    subst hacc
    iapply (wp_wand_r Idealize.ShloMosaic.frame (wpE (defs₀ (F := F)) 𝒱₀ (c : Thread nD τ) none) Set.univ)
    isplitl [H3 H4 H5 HX HS HG HW HR]
    · iapply (trip1_first c X1 arg3 harg3 arg4 harg4 arg5 harg5 arg6 harg6 arg7 harg7 v8 v13 k hk0 f4 f5 X0 f3 fs)
      isplitl [H3]; · iexact H3
      isplitl [HX]; · iexact HX
      isplitl [H4]; · iexact H4
      isplitl [H5]; · iexact H5
      isplitl [HS]; · iexact HS
      isplitl [HG]; · iexact HG
      isplitl [HW]; · iexact HW
      iexact HR
    · iintro %r ⟨Hr, H3, HX, H4, H5, HS, HG, HW, HR⟩
      isplitl [Hr]; · iexact Hr
      isplitl [H3]; · iexact H3
      isplitl [H4]; · iexact H4
      isplitl [H5]; · iexact H5
      isplitl [HX HS]
      · isplitl [HX]; · iexact HX
        iexact HS
      isplitl [HG]; · iexact HG
      isplitl [HW]; · iexact HW
      iexact HR
  · rw [if_neg hk0]
    iintro ⟨%hacc, H3, H4, H5, ⟨HX, ⟨%fs, HS, %hS⟩⟩, HG, HW, HR⟩
    subst hacc
    iapply (wp_wand_r Idealize.ShloMosaic.frame (wpE (defs₀ (F := F)) 𝒱₀ (c : Thread nD τ) none) Set.univ)
    isplitl [H4 H5 HS HG HW HR]
    · rcases Nat.lt_or_ge k.val 47 with hk | hk
      · iapply (trip1_mid c X1 arg3 harg3 arg4 harg4 arg5 harg5 arg6 harg6 arg7 harg7 v8 v13 k hk0 hk f4 f5 _ fs hS)
        isplitl [H4]; · iexact H4
        isplitl [H5]; · iexact H5
        isplitl [HS]; · iexact HS
        isplitl [HG]; · iexact HG
        isplitl [HW]; · iexact HW
        iexact HR
      · iapply (trip1_tail c X1 arg3 harg3 arg4 harg4 arg5 harg5 arg6 harg6 arg7 harg7 v8 v13 k hk f4 f5 _ fs hS)
        isplitl [H4]; · iexact H4
        isplitl [H5]; · iexact H5
        isplitl [HS]; · iexact HS
        isplitl [HG]; · iexact HG
        isplitl [HW]; · iexact HW
        iexact HR
    · iintro %r ⟨Hr, H4, H5, HS, HG, HW, HR⟩
      isplitl [Hr]; · iexact Hr
      isplitl [H3]; · iexact H3
      isplitl [H4]; · iexact H4
      isplitl [H5]; · iexact H5
      isplitl [HX HS]
      · isplitl [HX]; · iexact HX
        iexists fs
        isplitl [HS]; · iexact HS
        ipureintro; exact hS
      isplitl [HG]; · iexact HG
      isplitl [HW]; · iexact HW
      iexact HR

end Trip
end Cert.Proof.Stream
end
-- ==== Proof.Trips2.lean ====
/-
  One trip of the second streaming loop, by the part of the ring it moves.
-/
module

public import proofs.«01_k».proof.Proof.Trips1

@[expose] public section

set_option maxRecDepth 16384

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (X2 : Buf (Elt F) (adj2M.view.loc (c : Thread nD τ)))
  (arg3 : Memref sig .tc .vmem S128x64 .f32) (harg3 : arg3.IsWhole) (arg4 : Memref sig .tc .vmem S1x64 .f32) (harg4 : arg4.IsWhole)
  (arg5 : Memref sig .tc .vmem S64x16 .f32) (harg5 : arg5.IsWhole) (arg6 : Memref sig .tc .vmem S1x16 .f32) (harg6 : arg6.IsWhole)
  (arg7 : Memref sig .tc .vmem S10000x16 .f32) (harg7 : arg7.IsWhole) (v13 v37 : BitVec 32) (v38 : BitVec 1)

abbrev trip2 (k : Fin k0_t2_loop.trips) : Prog (TpuEff nD τ sig (Elt F) Λ₀ .tc) (BitVec 32 × BitVec 32 × BitVec 32) :=
  k0_t2_body (F := F) adj1M (Memref.isWhole_whole _) adj2M (Memref.isWhole_whole _) xM (Memref.isWhole_whole _) arg3 harg3 arg4 harg4 arg5 harg5 arg6 harg6 arg7 harg7
    xvM (Memref.isWhole_whole _) sM (Memref.isWhole_whole _) gM (Memref.isWhole_whole _) cc0_scratch3 buf1M (Memref.isWhole_whole _) cc0_scoped1
    buf2M (Memref.isWhole_whole _) cc0_scoped3 v13 v37 v38 k (carry k)

theorem pay3_congr {x x' : Vec F S1x200x10000 .f32} {y y' : Vec F S10000x16 .f32} {z z' : Vec F S1x16 .f32}
    (hx : x = x') (hy : y = y') (hz : z = z') : k0_pay3 x y z = k0_pay3 x' y' z' := by rw [hx, hy, hz]

/-- Row band `b` of the result, as a trip computes it from its adjacency block and the first layer's output `G`. -/
abbrev oBand (G : S10000x16.Idx → Elt F .f32) (f6 : Buf (Elt F) (arg6.view.loc (c : Thread nD τ))) (b : Fin 50) : FVec F S200x16 .f32 :=
  k0_pay3 (lead (payload c adj2M X2 b)) G (arg6.view.read (Elt F) f6)

/-- The output window written up to band `k`. -/
def oUpTo (P : Fin 50 → FVec F S200x16 .f32) (k : ℕ) : sProp 𝕄 := iprop(∃ f, at_ c arg7 f ∗ ⌜upTo arg7.view P k f⌝)

/-- A trip before the last issue: block `k` waited, block `k + 3` issued, band `k` written. -/
theorem trip2_mid (k : Fin k0_t2_loop.trips) (hk : k.val < 47)
    (f6 : Buf (Elt F) (arg6.view.loc (c : Thread nD τ))) (G : S10000x16.Idx → Elt F .f32) (fg : Buf (Elt F) (gM.view.loc (c : Thread nD τ)))
    (hG : gM.view.read (Elt F) fg = G) :
    iprop(at_ c arg6 f6 ∗ at_ c gM fg ∗ oUpTo c arg7 (oBand c X2 arg6 G f6) k ∗ (∃ W, owes (c : Thread nD τ) 0 W)
      ∗ ring c adj2M buf2M cc0_scoped3 X2 k)
    ⊢ wp frame (wpE (defs₀ (F := F)) 𝒱₀ (c : Thread nD τ) none) Set.univ (trip2 arg3 harg3 arg4 harg4 arg5 harg5 arg6 harg6 arg7 harg7 v13 v37 v38 k)
      (fun r => iprop(⌜r = carry (k.val + 1)⌝ ∗ at_ c arg6 f6 ∗ at_ c gM fg ∗ oUpTo c arg7 (oBand c X2 arg6 G f6) (k.val + 1)
        ∗ (∃ W, owes (c : Thread nD τ) 0 W) ∗ ring c adj2M buf2M cc0_scoped3 X2 (k.val + 1))) := by
  subst hG
  have hk50 : k.val < 50 := k.isLt
  have hi := issue2 k hk
  have hw := wait2 k
  have h1 := slotChk2 k
  have h2 := tripChk2 k
  refine (sep_mono .rfl (sep_mono .rfl (sep_mono .rfl (sep_mono .rfl (ring_open c adj2M buf2M cc0_scoped3 X2 k hk))))).trans ?_
  unfold oUpTo inflP freeP
  iintro ⟨H6, HG, ⟨%fo, HO, %ho⟩, ⟨%W, HW⟩, ⟨%f0, HF⟩, ⟨⟨%fb, HB⟩, HC⟩, HH, HR⟩
  dsimp only [trip2, carry]
  sl_unfold [k0_t2_body]
  sl_exec
  sl_step
  isplitr
  · ipureintro
    exact (by decide +kernel : ∀ k : Fin k0_t2_loop.trips, k.val < 47 →
      (trip2_mid.sl.v114_r1 k,
        Scalar.select (Scalar.ori (Scalar.cmpi CmpIPredicate.ne (trip2_mid.sl.v79_r1 k) (trip2_mid.sl.v89_r1 k)) (trip2_mid.sl.v78_r1 k)) (Scalar.addi (wGot ↑k) 1#32) (wGot ↑k),
        Scalar.select (Scalar.cmpi CmpIPredicate.eq (Scalar.select (1#1) (Scalar.addi (wBlk ↑k) 1#32) (wBlk ↑k)) 50#32) (0#32)
          (Scalar.select (1#1) (Scalar.addi (wBlk ↑k) 1#32) (wBlk ↑k))) = carry (k.val + 1)) k hk
  isplitl [H6]; · iexact H6
  isplitl [HG]; · iexact HG
  isplitl [HO]
  · iexists _; isplitl [HO]; · iexact HO
    ipureintro
    refine upTo_succ arg7.view _ k hk50 fo ho (slots2 k).2.2.2.2 _ _ ?_
    exact pay3_congr (slot_load buf2M (Ring.sl 4 k) (slots2 k).2.2.1 _ _ _) (View.readAt_full ..) (View.readAt_full ..)
  isplitl [HW]; · iexists _; iexact HW
  iapply ring_close c adj2M buf2M cc0_scoped3 X2 k hk
  unfold inflP freeP
  isplitl [HC]; · iexists fb; iexact HC
  isplitl [HF_dst HF]
  · isplitl [HF_dst]; · iexists _; iexact HF_dst
    iexact HF
  isplitl [HF_src]; · iexact HF_src
  iexact HR

/-- A trip past the last issue: block `k` waited, band `k` written. -/
theorem trip2_tail (k : Fin k0_t2_loop.trips) (hk : 47 ≤ k.val)
    (f6 : Buf (Elt F) (arg6.view.loc (c : Thread nD τ))) (G : S10000x16.Idx → Elt F .f32) (fg : Buf (Elt F) (gM.view.loc (c : Thread nD τ)))
    (hG : gM.view.read (Elt F) fg = G) :
    iprop(at_ c arg6 f6 ∗ at_ c gM fg ∗ oUpTo c arg7 (oBand c X2 arg6 G f6) k ∗ (∃ W, owes (c : Thread nD τ) 0 W)
      ∗ ring c adj2M buf2M cc0_scoped3 X2 k)
    ⊢ wp frame (wpE (defs₀ (F := F)) 𝒱₀ (c : Thread nD τ) none) Set.univ (trip2 arg3 harg3 arg4 harg4 arg5 harg5 arg6 harg6 arg7 harg7 v13 v37 v38 k)
      (fun r => iprop(⌜r = carry (k.val + 1)⌝ ∗ at_ c arg6 f6 ∗ at_ c gM fg ∗ oUpTo c arg7 (oBand c X2 arg6 G f6) (k.val + 1)
        ∗ (∃ W, owes (c : Thread nD τ) 0 W) ∗ ring c adj2M buf2M cc0_scoped3 X2 (k.val + 1))) := by
  subst hG
  have hk50 : k.val < 50 := k.isLt
  have hi := noIssue2 k (by omega)
  have hw := wait2 k
  have h1 := slotChk2 k
  have h2 := tripChk2 k
  refine (sep_mono .rfl (sep_mono .rfl (sep_mono .rfl (sep_mono .rfl (ring_open_tail c adj2M buf2M cc0_scoped3 X2 k hk50))))).trans ?_
  unfold oUpTo inflP
  iintro ⟨H6, HG, ⟨%fo, HO, %ho⟩, ⟨%W, HW⟩, ⟨%f0, HF⟩, HR⟩
  dsimp only [trip2, carry]
  sl_unfold [k0_t2_body]
  sl_exec
  sl_step
  isplitr
  · ipureintro
    exact (by decide +kernel : ∀ k : Fin k0_t2_loop.trips, 47 ≤ k.val →
      (trip2_tail.sl.v114_r1 k,
        Scalar.select (Scalar.ori (Scalar.cmpi CmpIPredicate.ne (trip2_tail.sl.v79_r1 k) (trip2_tail.sl.v89_r1 k)) (trip2_tail.sl.v78_r1 k)) (Scalar.addi (wGot ↑k) 1#32) (wGot ↑k),
        Scalar.select (Scalar.cmpi CmpIPredicate.eq (Scalar.select (1#1) (Scalar.addi (wBlk ↑k) 1#32) (wBlk ↑k)) 50#32) (0#32)
          (Scalar.select (1#1) (Scalar.addi (wBlk ↑k) 1#32) (wBlk ↑k))) = carry (k.val + 1)) k hk
  isplitl [H6]; · iexact H6
  isplitl [HG]; · iexact HG
  isplitl [HO]
  · iexists _; isplitl [HO]; · iexact HO
    ipureintro
    refine upTo_succ arg7.view _ k hk50 fo ho (slots2 k).2.2.2.2 _ _ ?_
    exact pay3_congr (slot_load buf2M (Ring.sl 4 k) (slots2 k).2.2.1 _ _ _) (View.readAt_full ..) (View.readAt_full ..)
  isplitl [HW]; · iexists _; iexact HW
  iapply ring_close_tail c adj2M buf2M cc0_scoped3 X2 k hk50 hk
  unfold freeP
  isplitl [HF_dst HF]
  · isplitl [HF_dst]; · iexists _; iexact HF_dst
    iexact HF
  isplitl [HF_src]; · iexact HF_src
  iexact HR

/-! ## The second loop -/

variable (G : S10000x16.Idx → Elt F .f32) (f6 : Buf (Elt F) (arg6.view.loc (c : Thread nD τ)))

/-- The second loop's resources before trip `k`. -/
def loop2Inv (k : ℕ) (acc : BitVec 32 × BitVec 32 × BitVec 32) : sProp 𝕄 :=
  iprop(⌜acc = carry k⌝ ∗ at_ c arg6 f6 ∗ (∃ fg, at_ c gM fg ∗ ⌜gM.view.read (Elt F) fg = G⌝) ∗ oUpTo c arg7 (oBand c X2 arg6 G f6) k
    ∗ (∃ W, owes (c : Thread nD τ) 0 W) ∗ ring c adj2M buf2M cc0_scoped3 X2 k)

theorem loop2_step (k : Fin k0_t2_loop.trips) (acc : BitVec 32 × BitVec 32 × BitVec 32) :
    loop2Inv c X2 arg6 arg7 G f6 k acc ⊢ wp frame (wpE (defs₀ (F := F)) 𝒱₀ (c : Thread nD τ) none) Set.univ
      (k0_t2_body (F := F) adj1M (Memref.isWhole_whole _) adj2M (Memref.isWhole_whole _) xM (Memref.isWhole_whole _) arg3 harg3 arg4 harg4 arg5 harg5 arg6 harg6 arg7 harg7
        xvM (Memref.isWhole_whole _) sM (Memref.isWhole_whole _) gM (Memref.isWhole_whole _) cc0_scratch3 buf1M (Memref.isWhole_whole _) cc0_scoped1
        buf2M (Memref.isWhole_whole _) cc0_scoped3 v13 v37 v38 k acc)
      (loop2Inv c X2 arg6 arg7 G f6 (k.val + 1)) := by
  unfold loop2Inv
  iintro ⟨%hacc, H6, ⟨%fg, HG, %hG⟩, HO, HW, HR⟩
  subst hacc
  iapply (wp_wand_r Idealize.ShloMosaic.frame (wpE (defs₀ (F := F)) 𝒱₀ (c : Thread nD τ) none) Set.univ)
  isplitl [H6 HG HO HW HR]
  · rcases Nat.lt_or_ge k.val 47 with hk | hk
    · iapply (trip2_mid c X2 arg3 harg3 arg4 harg4 arg5 harg5 arg6 harg6 arg7 harg7 v13 v37 v38 k hk f6 G fg hG)
      isplitl [H6]; · iexact H6
      isplitl [HG]; · iexact HG
      isplitl [HO]; · iexact HO
      isplitl [HW]; · iexact HW
      iexact HR
    · iapply (trip2_tail c X2 arg3 harg3 arg4 harg4 arg5 harg5 arg6 harg6 arg7 harg7 v13 v37 v38 k hk f6 G fg hG)
      isplitl [H6]; · iexact H6
      isplitl [HG]; · iexact HG
      isplitl [HO]; · iexact HO
      isplitl [HW]; · iexact HW
      iexact HR
  · iintro %r ⟨Hr, H6, HG, HO, HW, HR⟩
    isplitl [Hr]; · iexact Hr
    isplitl [H6]; · iexact H6
    isplitl [HG]
    · iexists fg; isplitl [HG]; · iexact HG
      ipureintro; exact hG
    isplitl [HO]; · iexact HO
    isplitl [HW]; · iexact HW
    iexact HR

end Trip
end Cert.Proof.Stream
end
-- ==== Proof.Body.lean ====
/-
  The kernel body, once: the copies it starts, the two streaming loops, and what the output window holds at its end.
-/
module

public import proofs.«01_k».proof.Proof.Trips2

@[expose] public section

set_option maxRecDepth 16384

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (X0 : Buf (Elt F) (xM.view.loc (c : Thread nD τ)))
  (X1 : Buf (Elt F) (adj1M.view.loc (c : Thread nD τ))) (X2 : Buf (Elt F) (adj2M.view.loc (c : Thread nD τ)))
  (arg3 : Memref sig .tc .vmem S128x64 .f32) (harg3 : arg3.IsWhole) (arg4 : Memref sig .tc .vmem S1x64 .f32) (harg4 : arg4.IsWhole)
  (arg5 : Memref sig .tc .vmem S64x16 .f32) (harg5 : arg5.IsWhole) (arg6 : Memref sig .tc .vmem S1x16 .f32) (harg6 : arg6.IsWhole)
  (arg7 : Memref sig .tc .vmem S10000x16 .f32) (harg7 : arg7.IsWhole)
  (f3 : Buf (Elt F) (arg3.view.loc (c : Thread nD τ))) (f4 : Buf (Elt F) (arg4.view.loc (c : Thread nD τ))) (f5 : Buf (Elt F) (arg5.view.loc (c : Thread nD τ)))
  (f6 : Buf (Elt F) (arg6.view.loc (c : Thread nD τ)))

/-- The first layer's output. -/
abbrev gVal : S10000x16.Idx → Elt F .f32 := bands (gBand c X1 arg4 arg5 (sVal c arg3 X0 f3) f4 f5)
/-- The result. -/
abbrev oVal : S10000x16.Idx → Elt F .f32 := bands (oBand c X2 arg6 (gVal c X0 X1 arg3 arg4 arg5 f3 f4 f5) f6)

/-- The kernel's own buffers, cells and HBM operands at rest. -/
def atRest : sProp 𝕄 :=
  iprop(xDone c X0 ∗ (∃ f, at_ c sM f) ∗ (∃ f, at_ c gM f) ∗ idle c adj1M buf1M cc0_scoped1 X1 ∗ idle c adj2M buf2M cc0_scoped3 X2)

abbrev kernel : Prog (TpuEff nD τ sig (Elt F) Λ₀ .tc) PUnit :=
  cc0__mega_kernel (F := F) adj1M (Memref.isWhole_whole _) adj2M (Memref.isWhole_whole _) xM (Memref.isWhole_whole _) arg3 harg3 arg4 harg4 arg5 harg5 arg6 harg6 arg7 harg7
    xvM (Memref.isWhole_whole _) sM (Memref.isWhole_whole _) gM (Memref.isWhole_whole _) cc0_scratch3 buf1M (Memref.isWhole_whole _) cc0_scoped1
    buf2M (Memref.isWhole_whole _) cc0_scoped3

theorem loop1_end (n : ℕ) (hn : n = 50) (acc : BitVec 32 × BitVec 32 × BitVec 32) :
    loop1Inv c X1 arg3 arg4 arg5 X0 f3 f4 f5 n acc ⊢ iprop(⌜acc = carry 50⌝ ∗ at_ c arg3 f3 ∗ at_ c arg4 f4 ∗ at_ c arg5 f5 ∗ xDone c X0 ∗ (∃ f, at_ c sM f)
      ∗ (∃ f, at_ c gM f ∗ ⌜gM.view.read (Elt F) f = gVal c X0 X1 arg3 arg4 arg5 f3 f4 f5⌝) ∗ (∃ W, owes (c : Thread nD τ) 0 W) ∗ idle c adj1M buf1M cc0_scoped1 X1) := by
  subst hn
  unfold loop1Inv feats gUpTo
  rw [if_neg (by decide)]
  iintro ⟨Ha, H3, H4, H5, ⟨HX, ⟨%fs, HS, -⟩⟩, ⟨%fg, HG, %hg⟩, HW, HR⟩
  isplitl [Ha]; · iexact Ha
  isplitl [H3]; · iexact H3
  isplitl [H4]; · iexact H4
  isplitl [H5]; · iexact H5
  isplitl [HX]; · iexact HX
  isplitl [HS]; · iexists fs; iexact HS
  isplitl [HG]
  · iexists fg; isplitl [HG]; · iexact HG
    ipureintro; exact upTo_all _ _ _ hg
  isplitl [HW]; · iexact HW
  iapply (ring_end c adj1M buf1M cc0_scoped1 X1); iexact HR

theorem loop2_end (G : S10000x16.Idx → Elt F .f32) (n : ℕ) (hn : n = 50) (acc : BitVec 32 × BitVec 32 × BitVec 32) :
    loop2Inv c X2 arg6 arg7 G f6 n acc ⊢ iprop(at_ c arg6 f6 ∗ (∃ f, at_ c gM f)
      ∗ (∃ f, at_ c arg7 f ∗ ⌜arg7.view.read (Elt F) f = bands (oBand c X2 arg6 G f6)⌝) ∗ (∃ W, owes (c : Thread nD τ) 0 W) ∗ idle c adj2M buf2M cc0_scoped3 X2) := by
  subst hn
  unfold loop2Inv oUpTo
  iintro ⟨-, H6, ⟨%fg, HG, -⟩, ⟨%fo, HO, %ho⟩, HW, HR⟩
  isplitl [H6]; · iexact H6
  isplitl [HG]; · iexists fg; iexact HG
  isplitl [HO]
  · iexists fo; isplitl [HO]; · iexact HO
    ipureintro; exact upTo_all _ _ _ ho
  isplitl [HW]; · iexact HW
  iapply (ring_end c adj2M buf2M cc0_scoped3 X2); iexact HR

theorem feats_zero : feats c arg3 X0 f3 0 = iprop(xInfl c X0 ∗ ∃ f, at_ c sM f) := if_pos rfl

theorem body_run (fo : Buf (Elt F) (arg7.view.loc (c : Thread nD τ))) :
    iprop(at_ c arg3 f3 ∗ at_ c arg4 f4 ∗ at_ c arg5 f5 ∗ at_ c arg6 f6 ∗ at_ c arg7 fo ∗ (∃ W, owes (c : Thread nD τ) 0 W) ∗ atRest c X0 X1 X2)
    ⊢ wp frame (wpE (defs₀ (F := F)) 𝒱₀ (c : Thread nD τ) none) Set.univ (kernel arg3 harg3 arg4 harg4 arg5 harg5 arg6 harg6 arg7 harg7)
      (fun _ => iprop(at_ c arg3 f3 ∗ at_ c arg4 f4 ∗ at_ c arg5 f5 ∗ at_ c arg6 f6
        ∗ (∃ f, at_ c arg7 f ∗ ⌜arg7.view.read (Elt F) f = oVal c X0 X1 X2 arg3 arg4 arg5 arg6 f3 f4 f5 f6⌝)
        ∗ (∃ W, owes (c : Thread nD τ) 0 W) ∗ atRest c X0 X1 X2)) := by
  unfold atRest
  refine (sep_mono .rfl (sep_mono .rfl (sep_mono .rfl (sep_mono .rfl (sep_mono .rfl (sep_mono .rfl (sep_mono .rfl (sep_mono .rfl (sep_mono .rfl (sep_mono (idle_open c adj1M buf1M cc0_scoped1 X1) (idle_open c adj2M buf2M cc0_scoped3 X2))))))))))).trans ?_
  unfold freeP xDone
  iintro ⟨H3, H4, H5, H6, HO, ⟨%W, HW⟩, ⟨⟨%fx, HXV⟩, HX, HXC⟩, HS, ⟨%fg, HG⟩,
    ⟨HA0, HA1, HA2, HA, ⟨⟨%g0, HB0⟩, HC0⟩, ⟨⟨%g1, HB1⟩, HC1⟩, ⟨⟨%g2, HB2⟩, HC2⟩, HF3⟩,
    ⟨HD0, HD1, HD2, HD, ⟨⟨%e0, HE0⟩, HK0⟩, ⟨⟨%e1, HE1⟩, HK1⟩, ⟨⟨%e2, HE2⟩, HK2⟩, HL3⟩⟩
  dsimp only [kernel]
  sl_unfold [cc0__mega_kernel]
  sl_exec
  iapply (Scf.wp_for_bind Idealize.ShloMosaic.frame (wpE (defs₀ (F := F)) 𝒱₀ (c : Thread nD τ) none) Set.univ _ _ _ _ _ _
    (loop1Inv c X1 arg3 arg4 arg5 X0 f3 f4 f5) (loop1_step c X1 arg3 harg3 arg4 harg4 arg5 harg5 arg6 harg6 arg7 harg7 _ _ X0 f3 f4 f5)) $$ [H3 H4 H5 HXC HS HG HW HA HF3 HC0 HC1 HC2]
  · unfold loop1Inv gUpTo
    rw [feats_zero]
    unfold xInfl
    isplitr; · ipureintro; rfl
    isplitl [H3]; · iexact H3
    isplitl [H4]; · iexact H4
    isplitl [H5]; · iexact H5
    isplitl [HXC HS]
    · isplitl [HXC]; · iexists fx; iexact HXC
      iexact HS
    isplitl [HG]
    · iexists fg; isplitl [HG]; · iexact HG
      ipureintro; exact upTo_zero _ _ _
    isplitl [HW]; · iexists _; iexact HW
    iapply (ring_start c adj1M buf1M cc0_scoped1 X1)
    unfold inflP freeP
    isplitl [HC0]; · iexists g0; iexact HC0
    isplitl [HC1]; · iexists g1; iexact HC1
    isplitl [HC2]; · iexists g2; iexact HC2
    isplitl [HA]; · iexact HA
    iexact HF3
  iintro %acc HI
  ihave HI := (loop1_end c X0 X1 arg3 arg4 arg5 f3 f4 f5 _ trips1 acc) $$ HI
  icases HI with ⟨%hacc, H3, H4, H5, HX, HS, ⟨%fg', HG, %hG⟩, ⟨%W', HW⟩, HI1⟩
  subst hacc
  dsimp only [carry]
  sl_exec
  iapply (Scf.wp_for_bind Idealize.ShloMosaic.frame (wpE (defs₀ (F := F)) 𝒱₀ (c : Thread nD τ) none) Set.univ _ _ _ _ _ _
    (loop2Inv c X2 arg6 arg7 (gVal c X0 X1 arg3 arg4 arg5 f3 f4 f5) f6)
    (loop2_step c X2 arg3 harg3 arg4 harg4 arg5 harg5 arg6 harg6 arg7 harg7 _ _ _ (gVal c X0 X1 arg3 arg4 arg5 f3 f4 f5) f6)) $$ [H6 HG HO HW HD HL3 HK0 HK1 HK2]
  · unfold loop2Inv oUpTo
    isplitr; · ipureintro; rfl
    isplitl [H6]; · iexact H6
    isplitl [HG]
    · iexists fg'; isplitl [HG]; · iexact HG
      ipureintro; exact hG
    isplitl [HO]
    · iexists fo; isplitl [HO]; · iexact HO
      ipureintro; exact upTo_zero _ _ _
    isplitl [HW]; · iexists _; iexact HW
    iapply (ring_start c adj2M buf2M cc0_scoped3 X2)
    unfold inflP freeP
    isplitl [HK0]; · iexists e0; iexact HK0
    isplitl [HK1]; · iexists e1; iexact HK1
    isplitl [HK2]; · iexists e2; iexact HK2
    isplitl [HD]; · iexact HD
    iexact HL3
  iintro %acc2 HI
  ihave HI := (loop2_end c X2 arg6 arg7 f6 (gVal c X0 X1 arg3 arg4 arg5 f3 f4 f5) _ trips2 acc2) $$ HI
  icases HI with ⟨H6, HG, HO, HW, HI2⟩
  sl_exec
  sl_step
  isplitl [H3]; · iexact H3
  isplitl [H4]; · iexact H4
  isplitl [H5]; · iexact H5
  isplitl [H6]; · iexact H6
  isplitl [HO]; · iexact HO
  isplitl [HW]; · iexact HW
  isplitl [HX]; · unfold xDone; iexact HX
  isplitl [HS]; · iexact HS
  isplitl [HG]; · iexact HG
  isplitl [HI1]; · iexact HI1
  iexact HI2

end Body
end Cert.Proof.Stream
end
-- ==== Proof.Launch.lean ====
/-
  The run of @main: the kernel's own buffers and cells carved from what the launch hands over, the body's obligation, and
  the final state.
-/
module

public import proofs.«01_k».proof.Proof.Body
public import proofs.«01_k».proof.Proof.Gen.KernelIdeal.Frame

@[expose] public section

set_option maxRecDepth 16384

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

theorem turn {P Q : sProp 𝕄} (e : P = Q) : P ⊢ Q := by rw [e]

/-! ## The kernel's own semaphores -/

/-- The x copy's cell, then the two rings' four each. -/
abbrev osem : Fin 9 → SemLoc sig := ![SemLoc.dma (SemArray.sem cc0_scratch3),
  SemLoc.dma (cell cc0_scoped1 0).sem, SemLoc.dma (cell cc0_scoped1 1).sem, SemLoc.dma (cell cc0_scoped1 2).sem, SemLoc.dma (cell cc0_scoped1 3).sem,
  SemLoc.dma (cell cc0_scoped3 0).sem, SemLoc.dma (cell cc0_scoped3 1).sem, SemLoc.dma (cell cc0_scoped3 2).sem, SemLoc.dma (cell cc0_scoped3 3).sem]
theorem ownSemFacts : Pipeline.OwnSemFacts spec0 osem := by decide +kernel

theorem ownSems_eq (c : Dev nD) : (Pipeline.ownSems0 (Ix := Unit) (Name := ℕ) (U := UU nD τ) (Lvl := ℕ) (Val := Elt F) (τ := τ) osem c : sProp 𝕄)
    = iprop(semVal ((c : Thread nD τ), SemLoc.dma (SemArray.sem cc0_scratch3)) 0
      ∗ cellP c cc0_scoped1 0 ∗ cellP c cc0_scoped1 1 ∗ cellP c cc0_scoped1 2 ∗ cellP c cc0_scoped1 3
      ∗ cellP c cc0_scoped3 0 ∗ cellP c cc0_scoped3 1 ∗ cellP c cc0_scoped3 2 ∗ cellP c cc0_scoped3 3) := by
  unfold Pipeline.ownSems0
  exact bigSep_univ_eq_bigSepL [(0 : Fin 9), 1, 2, 3, 4, 5, 6, 7, 8] (by decide) (by decide) _

/-! ## Element sets: the fifty row blocks, the four slots -/

abbrev rowsOf (b : Fin 50) : Finset S10000x10000.Idx := (Rect.unit (s := S10000x10000) (blkOff b) S200x10000.size (blkOff_inb b)).set
abbrev planeOf (s : Fin 4) : Finset S4x200x10000.Idx := (Rect.unit (s := S4x200x10000) (slotOff s) S1x200x10000.size (slotOff_inb s)).set

theorem mem_rowsOf (b : Fin 50) (y : S10000x10000.Idx) : y ∈ rowsOf b ↔ (y 0).val / 200 = b.val := by
  rw [Rect.mem_set_unit]
  have h1 : (y 1).val < 10000 := (y 1).isLt
  constructor
  · intro H; have a0 : 200 * b.val ≤ (y 0).val ∧ (y 0).val < 200 * b.val + 200 := H 0; omega
  · intro H i; fin_cases i
    · show 200 * b.val ≤ (y 0).val ∧ (y 0).val < 200 * b.val + 200; omega
    · show 0 ≤ (y 1).val ∧ (y 1).val < 0 + 10000; omega
theorem mem_planeOf (s : Fin 4) (y : S4x200x10000.Idx) : y ∈ planeOf s ↔ (y 0).val = s.val := by
  rw [Rect.mem_set_unit]
  have h1 : (y 1).val < 200 := (y 1).isLt
  have h2 : (y 2).val < 10000 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 200; omega
    · show 0 ≤ (y 2).val ∧ (y 2).val < 0 + 10000; omega
theorem rows_disjoint : ∀ b b' : Fin 50, b ≠ b' → Disjoint (rowsOf b) (rowsOf b') := fun b b' hne =>
  Finset.disjoint_left.mpr fun y hy hy' => hne (Fin.ext (((mem_rowsOf b y).mp hy).symm.trans ((mem_rowsOf b' y).mp hy')))
theorem rows_cover : (Finset.univ : Finset (Fin 50)).biUnion rowsOf = Finset.univ := by
  refine Finset.eq_univ_of_forall fun y => Finset.mem_biUnion.mpr ?_
  have h : (y 0).val < 10000 := (y 0).isLt
  exact ⟨⟨(y 0).val / 200, by omega⟩, Finset.mem_univ _, (mem_rowsOf _ y).mpr rfl⟩
theorem planes_disjoint : ∀ s s' : Fin 4, s ≠ s' → Disjoint (planeOf s) (planeOf s') := fun s s' hne =>
  Finset.disjoint_left.mpr fun y hy hy' => hne (Fin.ext (((mem_planeOf s y).mp hy).symm.trans ((mem_planeOf s' y).mp hy')))
theorem planes_cover : (Finset.univ : Finset (Fin 4)).biUnion planeOf = Finset.univ := by
  refine Finset.eq_univ_of_forall fun y => Finset.mem_biUnion.mpr ?_
  have h : (y 0).val < 4 := (y 0).isLt
  exact ⟨⟨(y 0).val, h⟩, Finset.mem_univ _, (mem_planeOf _ y).mpr rfl⟩

theorem four_eq (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-! ## Matrix 1 and its ring's buffer -/

theorem blk1_set (b : Fin 50) : (blk adj1M b).view.set = rowsOf b := View.set_slice_whole _ _
theorem slot1_set (s : Fin 4) : (slot buf1M s).view.set = planeOf s := (View.set_reshape _ _).trans (View.set_slice_whole _ _)
/-- The matrix whole is its fifty row blocks home. -/
theorem adj1_eq (c : Dev nD) (X : Buf (Elt F) (adj1M.view.loc (c : Thread nD τ))) :
    (((c : Thread nD τ).loc main_arg1) ↦{fullShare} X : sProp 𝕄) = bigSep Finset.univ (homeP c adj1M X) := by
  rw [Ring.pointsTo_blocks (ℓ := (c : Thread nD τ).loc main_arg1) rowsOf rows_disjoint rows_cover]
  exact bigSep_congr fun b _ => by rw [← blk1_set]; rfl
theorem slotP1_eq (c : Dev nD) (s : Fin 4) (f) : slotP c buf1M s f = (((c : Thread nD τ).loc cc0_scoped0) ↦[planeOf s]{fullShare} f : sProp 𝕄) :=
  congrArg (fun S => (_ ↦[S]{fullShare} f : sProp 𝕄)) (slot1_set s)
/-- The ring's buffer whole is its four slots, -/
theorem buf1_split (c : Dev nD) :
    iprop(∃ f : Buf (Elt F) ((c : Thread nD τ).loc cc0_scoped0), ((c : Thread nD τ).loc cc0_scoped0) ↦{fullShare} f)
      ⊢ (iprop((∃ f, slotP c buf1M 0 f) ∗ (∃ f, slotP c buf1M 1 f) ∗ (∃ f, slotP c buf1M 2 f) ∗ (∃ f, slotP c buf1M 3 f)) : sProp 𝕄) := by
  iintro ⟨%f, H⟩
  ihave H2 := (turn ((Ring.pointsTo_blocks (Ix := Unit) (Name := ℕ) (U := UU nD τ) (Lvl := ℕ) (q := fullShare) (ℓ := (c : Thread nD τ).loc cc0_scoped0) planeOf planes_disjoint planes_cover f).trans (four_eq _))) $$ H
  icases H2 with ⟨H0, H1, H2, H3⟩
  isplitl [H0]
  · iexists f; iapply (turn (slotP1_eq c 0 f).symm); iexact H0
  isplitl [H1]
  · iexists f; iapply (turn (slotP1_eq c 1 f).symm); iexact H1
  isplitl [H2]
  · iexists f; iapply (turn (slotP1_eq c 2 f).symm); iexact H2
  · iexists f; iapply (turn (slotP1_eq c 3 f).symm); iexact H3
/-- and back. -/
theorem buf1_join (c : Dev nD) :
    iprop((∃ f, slotP c buf1M 0 f) ∗ (∃ f, slotP c buf1M 1 f) ∗ (∃ f, slotP c buf1M 2 f) ∗ (∃ f, slotP c buf1M 3 f))
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scoped0) planeOf planes_disjoint planes_cover f0)
  irw [four_eq]
  isplitl [H0]
  · iexists f0; iapply (turn (slotP1_eq c 0 f0)); iexact H0
  isplitl [H1]
  · iexists f1; iapply (turn (slotP1_eq c 1 f1)); iexact H1
  isplitl [H2]
  · iexists f2; iapply (turn (slotP1_eq c 2 f2)); iexact H2
  · iexists f3; iapply (turn (slotP1_eq c 3 f3)); iexact H3
/-- The matrix, the buffer and the four cells are the ring idle, -/
theorem idle1_in (c : Dev nD) (X : Buf (Elt F) (adj1M.view.loc (c : Thread nD τ))) :
    iprop((((c : Thread nD τ).loc main_arg1) ↦{fullShare} X) ∗ (∃ f : Buf (Elt F) ((c : Thread nD τ).loc cc0_scoped0), ((c : Thread nD τ).loc cc0_scoped0) ↦{fullShare} f)
      ∗ cellP c cc0_scoped1 0 ∗ cellP c cc0_scoped1 1 ∗ cellP c cc0_scoped1 2 ∗ cellP c cc0_scoped1 3)
      ⊢ (idle c adj1M buf1M cc0_scoped1 X : sProp 𝕄) := by
  rw [adj1_eq]; unfold idle freeP
  iintro ⟨HA, HB, C0, C1, C2, C3⟩
  ihave HB := (buf1_split c) $$ HB
  icases HB with ⟨B0, B1, B2, B3⟩
  isplitl [HA]; · iexact HA
  isplitl [B0 C0]
  · isplitl [B0]; · iexact B0
    iexact C0
  isplitl [B1 C1]
  · isplitl [B1]; · iexact B1
    iexact C1
  isplitl [B2 C2]
  · isplitl [B2]; · iexact B2
    iexact C2
  isplitl [B3]; · iexact B3
  iexact C3
/-- and back. -/
theorem idle1_out (c : Dev nD) (X : Buf (Elt F) (adj1M.view.loc (c : Thread nD τ))) :
    (idle c adj1M buf1M cc0_scoped1 X : sProp 𝕄)
      ⊢ iprop((((c : Thread nD τ).loc main_arg1) ↦{fullShare} X) ∗ (∃ f : Buf (Elt F) ((c : Thread nD τ).loc cc0_scoped0), ((c : Thread nD τ).loc cc0_scoped0) ↦{fullShare} f)
      ∗ cellP c cc0_scoped1 0 ∗ cellP c cc0_scoped1 1 ∗ cellP c cc0_scoped1 2 ∗ cellP c cc0_scoped1 3) := by
  rw [adj1_eq]; unfold idle freeP
  iintro ⟨HA, ⟨B0, C0⟩, ⟨B1, C1⟩, ⟨B2, C2⟩, ⟨B3, C3⟩⟩
  isplitl [HA]; · iexact HA
  isplitl [B0 B1 B2 B3]
  · iapply (buf1_join c)
    isplitl [B0]; · iexact B0
    isplitl [B1]; · iexact B1
    isplitl [B2]; · iexact B2
    iexact B3
  isplitl [C0]; · iexact C0
  isplitl [C1]; · iexact C1
  isplitl [C2]; · iexact C2
  iexact C3

/-! ## Matrix 2 and its ring's buffer -/

theorem blk2_set (b : Fin 50) : (blk adj2M b).view.set = rowsOf b := View.set_slice_whole _ _
theorem slot2_set (s : Fin 4) : (slot buf2M s).view.set = planeOf s := (View.set_reshape _ _).trans (View.set_slice_whole _ _)
/-- The matrix whole is its fifty row blocks home. -/
theorem adj2_eq (c : Dev nD) (X : Buf (Elt F) (adj2M.view.loc (c : Thread nD τ))) :
    (((c : Thread nD τ).loc main_arg2) ↦{fullShare} X : sProp 𝕄) = bigSep Finset.univ (homeP c adj2M X) := by
  rw [Ring.pointsTo_blocks (ℓ := (c : Thread nD τ).loc main_arg2) rowsOf rows_disjoint rows_cover]
  exact bigSep_congr fun b _ => by rw [← blk2_set]; rfl
theorem slotP2_eq (c : Dev nD) (s : Fin 4) (f) : slotP c buf2M s f = (((c : Thread nD τ).loc cc0_scoped2) ↦[planeOf s]{fullShare} f : sProp 𝕄) :=
  congrArg (fun S => (_ ↦[S]{fullShare} f : sProp 𝕄)) (slot2_set s)
/-- The ring's buffer whole is its four slots, -/
theorem buf2_split (c : Dev nD) :
    iprop(∃ f : Buf (Elt F) ((c : Thread nD τ).loc cc0_scoped2), ((c : Thread nD τ).loc cc0_scoped2) ↦{fullShare} f)
      ⊢ (iprop((∃ f, slotP c buf2M 0 f) ∗ (∃ f, slotP c buf2M 1 f) ∗ (∃ f, slotP c buf2M 2 f) ∗ (∃ f, slotP c buf2M 3 f)) : sProp 𝕄) := by
  iintro ⟨%f, H⟩
  ihave H2 := (turn ((Ring.pointsTo_blocks (Ix := Unit) (Name := ℕ) (U := UU nD τ) (Lvl := ℕ) (q := fullShare) (ℓ := (c : Thread nD τ).loc cc0_scoped2) planeOf planes_disjoint planes_cover f).trans (four_eq _))) $$ H
  icases H2 with ⟨H0, H1, H2, H3⟩
  isplitl [H0]
  · iexists f; iapply (turn (slotP2_eq c 0 f).symm); iexact H0
  isplitl [H1]
  · iexists f; iapply (turn (slotP2_eq c 1 f).symm); iexact H1
  isplitl [H2]
  · iexists f; iapply (turn (slotP2_eq c 2 f).symm); iexact H2
  · iexists f; iapply (turn (slotP2_eq c 3 f).symm); iexact H3
/-- and back. -/
theorem buf2_join (c : Dev nD) :
    iprop((∃ f, slotP c buf2M 0 f) ∗ (∃ f, slotP c buf2M 1 f) ∗ (∃ f, slotP c buf2M 2 f) ∗ (∃ f, slotP c buf2M 3 f))
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scoped2) planeOf planes_disjoint planes_cover f0)
  irw [four_eq]
  isplitl [H0]
  · iexists f0; iapply (turn (slotP2_eq c 0 f0)); iexact H0
  isplitl [H1]
  · iexists f1; iapply (turn (slotP2_eq c 1 f1)); iexact H1
  isplitl [H2]
  · iexists f2; iapply (turn (slotP2_eq c 2 f2)); iexact H2
  · iexists f3; iapply (turn (slotP2_eq c 3 f3)); iexact H3
/-- The matrix, the buffer and the four cells are the ring idle, -/
theorem idle2_in (c : Dev nD) (X : Buf (Elt F) (adj2M.view.loc (c : Thread nD τ))) :
    iprop((((c : Thread nD τ).loc main_arg2) ↦{fullShare} X) ∗ (∃ f : Buf (Elt F) ((c : Thread nD τ).loc cc0_scoped2), ((c : Thread nD τ).loc cc0_scoped2) ↦{fullShare} f)
      ∗ cellP c cc0_scoped3 0 ∗ cellP c cc0_scoped3 1 ∗ cellP c cc0_scoped3 2 ∗ cellP c cc0_scoped3 3)
      ⊢ (idle c adj2M buf2M cc0_scoped3 X : sProp 𝕄) := by
  rw [adj2_eq]; unfold idle freeP
  iintro ⟨HA, HB, C0, C1, C2, C3⟩
  ihave HB := (buf2_split c) $$ HB
  icases HB with ⟨B0, B1, B2, B3⟩
  isplitl [HA]; · iexact HA
  isplitl [B0 C0]
  · isplitl [B0]; · iexact B0
    iexact C0
  isplitl [B1 C1]
  · isplitl [B1]; · iexact B1
    iexact C1
  isplitl [B2 C2]
  · isplitl [B2]; · iexact B2
    iexact C2
  isplitl [B3]; · iexact B3
  iexact C3
/-- and back. -/
theorem idle2_out (c : Dev nD) (X : Buf (Elt F) (adj2M.view.loc (c : Thread nD τ))) :
    (idle c adj2M buf2M cc0_scoped3 X : sProp 𝕄)
      ⊢ iprop((((c : Thread nD τ).loc main_arg2) ↦{fullShare} X) ∗ (∃ f : Buf (Elt F) ((c : Thread nD τ).loc cc0_scoped2), ((c : Thread nD τ).loc cc0_scoped2) ↦{fullShare} f)
      ∗ cellP c cc0_scoped3 0 ∗ cellP c cc0_scoped3 1 ∗ cellP c cc0_scoped3 2 ∗ cellP c cc0_scoped3 3) := by
  rw [adj2_eq]; unfold idle freeP
  iintro ⟨HA, ⟨B0, C0⟩, ⟨B1, C1⟩, ⟨B2, C2⟩, ⟨B3, C3⟩⟩
  isplitl [HA]; · iexact HA
  isplitl [B0 B1 B2 B3]
  · iapply (buf2_join c)
    isplitl [B0]; · iexact B0
    isplitl [B1]; · iexact B1
    isplitl [B2]; · iexact B2
    iexact B3
  isplitl [C0]; · iexact C0
  isplitl [C1]; · iexact C1
  isplitl [C2]; · iexact C2
  iexact C3

/-! ## What the launch hands over is the kernel at rest -/

section Rest
variable (c : Dev nD) (X0 : Buf (Elt F) (xM.view.loc (c : Thread nD τ)))
  (X1 : Buf (Elt F) (adj1M.view.loc (c : Thread nD τ))) (X2 : Buf (Elt F) (adj2M.view.loc (c : Thread nD τ)))

/-- The operands in HBM that the kernel itself streams, at their contents. -/
def operands : sProp 𝕄 :=
  iprop((((c : Thread nD τ).loc main_arg0) ↦{fullShare} X0) ∗ (((c : Thread nD τ).loc main_arg1) ↦{fullShare} X1) ∗ (((c : Thread nD τ).loc main_arg2) ↦{fullShare} X2))

theorem at_x_eq : (at_ c xM X0 : sProp 𝕄) = (((c : Thread nD τ).loc main_arg0) ↦{fullShare} X0) := congrArg (fun S => (_ ↦[S]{fullShare} X0 : sProp 𝕄)) (View.set_whole main_arg0)
theorem at_xv_eq (f) : (at_ c xvM f : sProp 𝕄) = (((c : Thread nD τ).loc cc0_scratch0) ↦{fullShare} f) := congrArg (fun S => (_ ↦[S]{fullShare} f : sProp 𝕄)) (View.set_whole cc0_scratch0)
theorem at_s_eq (f) : (at_ c sM f : sProp 𝕄) = (((c : Thread nD τ).loc cc0_scratch1) ↦{fullShare} f) := congrArg (fun S => (_ ↦[S]{fullShare} f : sProp 𝕄)) (View.set_whole cc0_scratch1)
theorem at_g_eq (f) : (at_ c gM f : sProp 𝕄) = (((c : Thread nD τ).loc cc0_scratch2) ↦{fullShare} f) := congrArg (fun S => (_ ↦[S]{fullShare} f : sProp 𝕄)) (View.set_whole cc0_scratch2)

theorem rest_in : iprop((operands c X0 X1 X2 ∗ Pipeline.ownSems0 osem c) ∗ Pipeline.scopedRest spec0 c) ⊢ (atRest c X0 X1 X2 : sProp 𝕄) := by
  rw [scopedRest0_eq, ownSems_eq]
  unfold operands atRest xDone
  iintro ⟨⟨⟨H0, H1, H2⟩, Hx, C0, C1, C2, C3, D0, D1, D2, D3⟩, ⟨%fx, Bx⟩, ⟨%fs, Bs⟩, ⟨%fg, Bg⟩, B1, B2⟩
  isplitl [H0 Hx Bx]
  · isplitl [Bx]
    · iexists fx; iapply (turn (at_xv_eq c fx).symm); iexact Bx
    isplitl [H0]
    · iapply (turn (at_x_eq c X0).symm); iexact H0
    iexact Hx
  isplitl [Bs]
  · iexists fs; iapply (turn (at_s_eq c fs).symm); iexact Bs
  isplitl [Bg]
  · iexists fg; iapply (turn (at_g_eq c fg).symm); iexact Bg
  isplitl [H1 B1 C0 C1 C2 C3]
  · iapply (idle1_in c X1)
    isplitl [H1]; · iexact H1
    isplitl [B1]; · iexact B1
    isplitl [C0]; · iexact C0
    isplitl [C1]; · iexact C1
    isplitl [C2]; · iexact C2
    iexact C3
  · iapply (idle2_in c X2)
    isplitl [H2]; · iexact H2
    isplitl [B2]; · iexact B2
    isplitl [D0]; · iexact D0
    isplitl [D1]; · iexact D1
    isplitl [D2]; · iexact D2
    iexact D3

theorem rest_out : (atRest c X0 X1 X2 : sProp 𝕄) ⊢ iprop(operands c X0 X1 X2 ∗ Pipeline.ownSems0 osem c ∗ Pipeline.scopedRest spec0 c) := by
  rw [scopedRest0_eq, ownSems_eq]
  unfold operands atRest xDone
  iintro ⟨⟨⟨%fx, Bx⟩, H0, Hx⟩, ⟨%fs, Bs⟩, ⟨%fg, Bg⟩, R1, R2⟩
  ihave R1 := (idle1_out c X1) $$ R1
  icases R1 with ⟨H1, B1, C0, C1, C2, C3⟩
  ihave R2 := (idle2_out c X2) $$ R2
  icases R2 with ⟨H2, B2, D0, D1, D2, D3⟩
  isplitl [H0 H1 H2]
  · isplitl [H0]
    · iapply (turn (at_x_eq c X0)); iexact H0
    isplitl [H1]; · iexact H1
    iexact H2
  isplitl [Hx C0 C1 C2 C3 D0 D1 D2 D3]
  · isplitl [Hx]; · iexact Hx
    isplitl [C0]; · iexact C0
    isplitl [C1]; · iexact C1
    isplitl [C2]; · iexact C2
    isplitl [C3]; · iexact C3
    isplitl [D0]; · iexact D0
    isplitl [D1]; · iexact D1
    isplitl [D2]; · iexact D2
    iexact D3
  isplitl [Bx]
  · iexists fx; iapply (turn (at_xv_eq c fx)); iexact Bx
  isplitl [Bs]
  · iexists fs; iapply (turn (at_s_eq c fs)); iexact Bs
  isplitl [Bg]
  · iexists fg; iapply (turn (at_g_eq c fg)); iexact Bg
  isplitl [B1]; · iexact B1
  iexact B2

end Rest

end Cert.Proof.Stream

end
-- ==== Proof.Run.lean ====
/-
  The run of @main: the pipeline's data, the body's obligation, the run to its end, and what every buffer then holds.
-/
module

public import proofs.«01_k».proof.Proof.Launch

@[expose] public section

set_option maxRecDepth 16384

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
variable (m : (ℓ : Loc nD τ sig) → Buf (Elt F) ℓ) (ρ : Dev nD → PrngReg)

/-- The pipeline library's half of the resources. -/
abbrev EP : Emb (UR sig nD τ) (MT nD τ sig Unit (Elt F) ℕ (UU nD τ) ℕ) := embL

/-- What the body leaves in the output's staging buffer. -/
def outAt (c : Dev nD) (t : Fin cfg0.N) : (cfg0.win 4).block.Idx → Elt F (cfg0.win 4).elt :=
  oVal c (V m c main_arg0) (V m c main_arg1) (V m c main_arg2) (st0_0 t) (st0_1 t) (st0_2 t) (st0_3 t)
    ((st0_0 t).view.rep (iblk m c 0 t)) ((st0_1 t).view.rep (iblk m c 1 t)) ((st0_2 t).view.rep (iblk m c 2 t)) ((st0_3 t).view.rep (iblk m c 3 t))

/-- The region's proof data: the windows' arrays as the region finds them, the inputs left in place, the result in the
    output's staging buffer, the kernel at rest before and after. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := atRest c (V m c main_arg0) (V m c main_arg1) (V m c main_arg2)
  q _ := fullShare
  owed _ := 0

theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

/-- The body table's entry, then at the point's staging memrefs. -/
theorem defs_entry : (defs₀ (F := F)) .tc cfg0.body
    = fun a => kernel (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) := rfl
theorem defs_at (t : Fin cfg0.N) : (defs₀ (F := F)) .tc cfg0.body (cfg0.bodyArgs t (cfg0.slots t))
    = kernel (st0_0 t) (hstage0_0 0) (st0_1 t) (hstage0_1 0) (st0_2 t) (hstage0_2 0) (st0_3 t) (hstage0_3 0) (st0_4 t) (hstage0_4 0) :=
  (congrFun defs_entry _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_0, before_1, before_2, before_3, after_0, after_1, after_2, after_3, after_4]
  rw [show (dats m 0 c).Φ t.castSucc = atRest c (V m c main_arg0) (V m c main_arg1) (V m c main_arg2) from rfl,
    show (dats m 0 c).Φ t.succ = atRest c (V m c main_arg0) (V m c main_arg1) (V m c main_arg2) from rfl]
  unfold Dat.owesAt Pipeline.owesWithin
  rw [show (dats m 0 c).owed t.castSucc = 0 from rfl, show (dats m 0 c).owed t.succ = 0 from rfl]
  unfold owns
  iintro ⟨HR, ⟨%W, -, HW⟩, ⟨%d0, %g0, %e0, H0⟩, ⟨%d1, %g1, %e1, H1⟩, ⟨%d2, %g2, %e2, H2⟩, ⟨%d3, %g3, %e3, H3⟩, ⟨%d4, %g4, -, H4⟩⟩
  ihave H0 := (pointsTo_rep_entails (c : Thread nD τ) (st0_0 t) g0 fullShare) $$ H0
  ihave H1 := (pointsTo_rep_entails (c : Thread nD τ) (st0_1 t) g1 fullShare) $$ H1
  ihave H2 := (pointsTo_rep_entails (c : Thread nD τ) (st0_2 t) g2 fullShare) $$ H2
  ihave H3 := (pointsTo_rep_entails (c : Thread nD τ) (st0_3 t) g3 fullShare) $$ H3
  rw [e0, e1, e2, e3]
  sl_rw [defs_at t]
  ihave Hwp := (body_run c (V m c main_arg0) (V m c main_arg1) (V m c main_arg2) (st0_0 t) (hstage0_0 0) (st0_1 t) (hstage0_1 0) (st0_2 t) (hstage0_2 0) (st0_3 t) (hstage0_3 0) (st0_4 t) (hstage0_4 0)
    ((st0_0 t).view.rep (iblk m c 0 t)) ((st0_1 t).view.rep (iblk m c 1 t)) ((st0_2 t).view.rep (iblk m c 2 t)) ((st0_3 t).view.rep (iblk m c 3 t)) g4) $$ [H0 H1 H2 H3 H4 HW HR]
  · isplitl [H0]; · iexact H0
    isplitl [H1]; · iexact H1
    isplitl [H2]; · iexact H2
    isplitl [H3]; · iexact H3
    isplitl [H4]; · iexact H4
    isplitl [HW]; · iexists W; iexact HW
    iexact HR
  iapply wp_wand_r $$ [Hwp]
  isplitl [Hwp]; · iexact Hwp
  iintro %u ⟨H0, H1, H2, H3, ⟨%f, H4, %e4⟩, ⟨%W', HW⟩, HR⟩
  isplitl [HR]; · iexact HR
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  iexists f; isplitr; · ipureintro; exact e4
  iexact H4

/-! ## The run -/

def u₀ : UU nD τ := (initOf (Pipeline.cells cfgs Gen.cellOf_inj) (Pipeline.launchToks cfgs Gen.cellOf_inj), 1)
/-- What the region leaves untouched beside the streamed operands: the two biases as given. -/
def biases (c : Dev nD) : sProp 𝕄 :=
  iprop((((c : Thread nD τ).loc main_arg4) ↦{fullShare} V m c main_arg4) ∗ (((c : Thread nD τ).loc main_arg6) ↦{fullShare} V m c main_arg6))
def QY (c : Dev nD) (s : MemSt nD τ sig (Elt F)) : Prop :=
  s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg4) = V m c main_arg4
    ∧ s.mem ((c : Thread nD τ).loc main_arg6) = V m c main_arg6
/-- The run's end: every window's array at its final contents, the other operands as they were. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

set_option backward.isDefEq.respectTransparency.types false in
set_option maxHeartbeats 800000 in
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := fun c => iprop(operands c (V m c main_arg0) (V m c main_arg1) (V m c main_arg2) ∗ Pipeline.ownSems0 osem c))
    (Y := fun c => operands c (V m c main_arg0) (V m c main_arg1) (V m c main_arg2)) (Z := fun c => biases m c)
    (hX := fun c => by
      rw [unscopedRest0_eq]
      unfold operands biases
      iintro ⟨⟨H0, H1, H2, H4, H6⟩, HS, -, -, -⟩; imodintro
      isplitl [H0 H1 H2 HS]
      · isplitl [H0 H1 H2]
        · isplitl [H0]; · iexact H0
          isplitl [H1]; · iexact H1
          iexact H2
        iexact HS
      isplitl [H4]; · iexact H4
      iexact H6)
    (hin := fun c => rest_in c _ _ _)
    (hout := fun c => rest_out c _ _ _)
    (QY := QY m)
    (hY := fun c s' => by
      unfold operands biases
      iintro ⟨⟨H0, H1, H2⟩, ⟨H4, H6⟩, HSI⟩
      icombine HSI H0 gives %h0
      icombine HSI H1 gives %h1
      icombine HSI H2 gives %h2
      icombine HSI H4 gives %h4
      icombine HSI H6 gives %h6
      imodintro
      isplitr
      · ipureintro
        exact ⟨Buf.eq_of_forall_mem_univ h0, Buf.eq_of_forall_mem_univ h1, Buf.eq_of_forall_mem_univ h2, Buf.eq_of_forall_mem_univ h4, Buf.eq_of_forall_mem_univ h6⟩
      iexact HSI)
    (hQ := fun _ hh hz => ⟨hh, hz⟩)

end Cert.Proof.Stream

end
-- ==== Proof.Frames.lean ====
/- Every execution ends: the three frames. The kernel's, at either instance, is the one run of `Run.lean` read at its
   seven argument buffers and its counters; the reference's is its straight-line run, and it declares no semaphore. -/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Proof

open Idealize.ShloMosaic Idealize.ShloMosaic.TcCoe Idealize.SL.Sem
open Cert.KernelIdeal Cert.KernelIdeal.Gen Cert.Proof.Stream
open Idealize.ShloMosaic.Pipeline (Dat)

/-- What the run leaves in the seven argument buffers: what they held. -/
theorem args_kept {F : FTy → Type} [FloatOps F] (m : (ℓ : Loc nD τ sig) → Buf (Elt F) ℓ) (r : PUnit × MemSt nD τ sig (Elt F))
    (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  obtain ⟨hw, h0, h1, h2, h4, h6⟩ := h c
  exact ⟨h0.trans (V_main_arg0 m c), h1.trans (V_main_arg1 m c), h2.trans (V_main_arg2 m c),
    (hw 0).trans (((dats m 0 c).arrAt_in 0 rfl _).trans (V_main_arg3 m c)), h4.trans (V_main_arg4 m c),
    (hw 2).trans (((dats m 0 c).arrAt_in 2 rfl _).trans (V_main_arg5 m c)), h6.trans (V_main_arg6 m c)⟩

/-- What a frame says of an outcome. -/
def Kept {F : FTy → Type} [FloatOps F] (m : (ℓ : Loc nD τ sig) → Buf (Elt F) ℓ) (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
  ∧ r.2.sem = fun _ => 0

/-- The run, read as a frame, over any floats. -/
theorem run_kept {F : FTy → Type} [FloatOps F] (m : (ℓ : Loc nD τ sig) → Buf (Elt F) ℓ) (ρ : Dev nD → PrngReg) :
    θ_run Cert.KernelIdeal.defs (onTc (τ := τ) (main (F := F))) ⟨m, fun _ => 0, ρ⟩ (Kept m) :=
  (θ_run Cert.KernelIdeal.defs _ _).mono (fun r h => ⟨args_kept m r h.1, h.2⟩) (run_main m ρ)

set_option smartUnfolding false in
/-- The kernel runs, keeps its arguments and ends with every counter at zero. -/
theorem frame_kernel : Cert.quiescent_Kernel := fun m ρ _ => run_kept (F := Bits) m ρ

/-- The same over the extended reals. -/
theorem frame_ideal : Cert.quiescent_KernelIdeal := fun m ρ _ => run_kept (F := Ideal) m ρ

/-- The reference runs, keeps its arguments and has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The side conditions of the precondition's operations. -/
theorem finite_facts : Cert.Pre_finite.Facts where
  bcast_S_S10000x128 := by decide
  bcast_S_S10000x10000 := by decide
  bcast_S_S128x64 := by decide
  bcast_S_S64 := by decide
  bcast_S_S64x16 := by decide
  bcast_S_S16 := by decide

end Cert.Proof

end
-- ==== Proof.Closed.lean ====
/- The kernel's payloads over the extended reals, read at an index: what each computes, entry by entry, in plain sums. -/
module

public import proofs.«01_k».proof.Proof.Run
public import Idealize.ShloMosaic.Lib.Pointwise

@[expose] public section

noncomputable section

namespace Cert.Proof.Closed

open Cert.KernelIdeal Cert.KernelIdeal.Gen Cert.Proof.Stream
open Idealize.ShloMosaic Idealize.ShloMosaic.TcCoe

/-! ## The problem's arrays, entry by entry -/

/-- Node features: row `k` of `x @ w`. -/
def feat (x : S10000x128.Idx → EReal) (w : S128x64.Idx → EReal) (k : Fin 10000) (q : Fin 64) : EReal :=
  ∑ l : Fin 128, x (ix2 k l) * w (ix2 l q)
/-- The hidden layer: `max (a @ s + b) 0`. -/
def hid (a : S10000x10000.Idx → EReal) (s : Fin 10000 → Fin 64 → EReal) (b : Fin 64 → EReal) (i : Fin 10000) (q : Fin 64) : EReal :=
  max ((∑ k : Fin 10000, a (ix2 i k) * s k q) + b q) 0
/-- The hidden layer's product with the second weights. -/
def mid (h : Fin 10000 → Fin 64 → EReal) (w : S64x16.Idx → EReal) (i : Fin 10000) (n : Fin 16) : EReal :=
  ∑ q : Fin 64, h i q * w (ix2 q n)
/-- The class scores: `a @ g + b`. -/
def score (a : S10000x10000.Idx → EReal) (g : Fin 10000 → Fin 16 → EReal) (b : Fin 16 → EReal) (i : Fin 10000) (n : Fin 16) : EReal :=
  (∑ k : Fin 10000, a (ix2 i k) * g k n) + b n
/-- A row less the logarithm of its exponentials' sum, the row's maximum taken out first. -/
def shifted (l : Fin 16 → EReal) (n : Fin 16) : EReal :=
  l n - (Finset.univ.fold max ⊥ l + Ideal.log (∑ k : Fin 16, Ideal.exp (l k - Finset.univ.fold max ⊥ l)))
/-- A row less the logarithm of its exponentials' sum. -/
def normed (l : Fin 16 → EReal) (n : Fin 16) : EReal := l n - Ideal.log (∑ k : Fin 16, Ideal.exp (l k))

/-! ## The payloads -/

theorem bits_bot : Ideal.ofBits .f32 0xFF800000#32 = ⊥ := by simp [Ideal.ofBits, Ideal.ieee]

theorem pay1_at (x : Vec Ideal S10000x128 .f32) (w : Vec Ideal S128x64 .f32) (k : Fin 10000) (q : Fin 64) :
    k0_pay1 x w (ix2 k q) = feat x w k q := by
  unfold k0_pay1 feat
  simp only [pointwise, zero_add]

theorem pay2_at (a : Vec Ideal S1x200x10000 .f32) (s : Vec Ideal S10000x64 .f32) (b : Vec Ideal S1x64 .f32) (w : Vec Ideal S64x16 .f32)
    (r : Fin 200) (n : Fin 16) :
    k0_pay4 (k0_pay2 a s b w) (ix2 r n)
      = ∑ q : Fin 64, max ((∑ k : Fin 10000, a (ix3 0 r k) * s (ix2 k q)) + b (ix2 0 q)) 0 * w (ix2 q n) := by
  unfold k0_pay4 k0_pay2
  simp only [pointwise, zero_add]
  rfl

theorem pay3_at (a : Vec Ideal S1x200x10000 .f32) (g : Vec Ideal S10000x16 .f32) (b : Vec Ideal S1x16 .f32)
    (r : Fin 200) (n : Fin 16) :
    k0_pay3 a g b (ix2 r n) = shifted (fun n => (∑ k : Fin 10000, a (ix3 0 r k) * g (ix2 k n)) + b (ix2 0 n)) n := by
  unfold k0_pay3 shifted
  simp only [pointwise, zero_add, bits_bot]
  rfl

theorem lead_at (v : S200x10000.Idx → Elt Ideal .f32) (r : Fin 200) (k : Fin 10000) : lead v (ix3 0 r k) = v (ix2 r k) := by
  unfold lead
  refine congrArg v ((Equiv.symm_apply_eq _).2 ?_)
  simp only [pointwise]

theorem payload1_at (c : Dev nD) (X : Buf (Elt Ideal) (adj1M.view.loc (c : Thread nD τ))) (b : Fin 50) (r : Fin 200) (k : Fin 10000) :
    payload c adj1M X b (ix2 r k) = (X : S10000x10000.Idx → EReal) (ix2 ⟨200 * b.val + r.val, by omega⟩ k) := by
  refine congrArg (X : S10000x10000.Idx → EReal) (funext fun a => Fin.ext ?_)
  match a with
  | ⟨0, _⟩ => show 200 * b.val + 1 * r.val = 200 * b.val + r.val; omega
  | ⟨1, _⟩ => show 0 + 1 * k.val = k.val; omega

theorem payload2_at (c : Dev nD) (X : Buf (Elt Ideal) (adj2M.view.loc (c : Thread nD τ))) (b : Fin 50) (r : Fin 200) (k : Fin 10000) :
    payload c adj2M X b (ix2 r k) = (X : S10000x10000.Idx → EReal) (ix2 ⟨200 * b.val + r.val, by omega⟩ k) := by
  refine congrArg (X : S10000x10000.Idx → EReal) (funext fun a => Fin.ext ?_)
  match a with
  | ⟨0, _⟩ => show 200 * b.val + 1 * r.val = 200 * b.val + r.val; omega
  | ⟨1, _⟩ => show 0 + 1 * k.val = k.val; omega

/-! ## The whole kernel -/

theorem bands_at (P : Fin 50 → FVec Ideal S200x16 .f32) (i : Fin 10000) (n : Fin 16) :
    bands P (ix2 i n) = P ⟨i.val / 200, by omega⟩ (ix2 ⟨i.val % 200, by omega⟩ n) := rfl

theorem row (i : Fin 10000) : (⟨200 * (i.val / 200) + i.val % 200, by omega⟩ : Fin 10000) = i := Fin.ext (by show 200 * (i.val / 200) + i.val % 200 = i.val; omega)

section Whole
variable (c : Dev nD) (X0 : Buf (Elt Ideal) (xM.view.loc (c : Thread nD τ)))
  (X1 : Buf (Elt Ideal) (adj1M.view.loc (c : Thread nD τ))) (X2 : Buf (Elt Ideal) (adj2M.view.loc (c : Thread nD τ)))
  (arg3 : Memref sig .tc .vmem S128x64 .f32) (arg4 : Memref sig .tc .vmem S1x64 .f32)
  (arg5 : Memref sig .tc .vmem S64x16 .f32) (arg6 : Memref sig .tc .vmem S1x16 .f32)
  (f3 : Buf (Elt Ideal) (arg3.view.loc (c : Thread nD τ))) (f4 : Buf (Elt Ideal) (arg4.view.loc (c : Thread nD τ))) (f5 : Buf (Elt Ideal) (arg5.view.loc (c : Thread nD τ)))
  (f6 : Buf (Elt Ideal) (arg6.view.loc (c : Thread nD τ)))

/-- The first layer's output, entry by entry. -/
theorem gVal_at (i : Fin 10000) (n : Fin 16) :
    gVal c X0 X1 arg3 arg4 arg5 f3 f4 f5 (ix2 i n)
      = mid (hid X1 (feat X0 (arg3.view.read (Elt Ideal) f3)) (fun q => arg4.view.read (Elt Ideal) f4 (ix2 0 q)))
          (arg5.view.read (Elt Ideal) f5) i n := by
  unfold gVal mid hid
  rw [bands_at, gBand, pay2_at]
  refine Finset.sum_congr rfl fun q _ => congrArg₂ (· * ·) (congrArg₂ max (congrArg₂ (· + ·) (Finset.sum_congr rfl fun k _ =>
    congrArg₂ (· * ·) ((lead_at _ _ _).trans ((payload1_at c X1 _ _ k).trans ?_)) (pay1_at _ _ k q)) rfl) rfl) rfl
  rw [row]

/-- The kernel's result, entry by entry. -/
theorem oVal_at (i : Fin 10000) (n : Fin 16) :
    oVal c X0 X1 X2 arg3 arg4 arg5 arg6 f3 f4 f5 f6 (ix2 i n)
      = shifted (score X2 (mid (hid X1 (feat X0 (arg3.view.read (Elt Ideal) f3)) (fun q => arg4.view.read (Elt Ideal) f4 (ix2 0 q)))
          (arg5.view.read (Elt Ideal) f5)) (fun k => arg6.view.read (Elt Ideal) f6 (ix2 0 k)) i) n := by
  unfold oVal
  rw [bands_at, oBand, pay3_at]
  refine congrArg (fun l => shifted l n) (funext fun n => congrArg₂ (· + ·) (Finset.sum_congr rfl fun k _ =>
    congrArg₂ (· * ·) ((lead_at _ _ _).trans ((payload2_at c X2 _ _ k).trans ?_)) (gVal_at c X0 X1 arg3 arg4 arg5 f3 f4 f5 k n)) rfl)
  rw [row]

end Whole

end Cert.Proof.Closed

end
-- ==== Proof.Reals.lean ====
/- Rows of reals among the extended reals: sums, products and maxima of reals are reals, and a row of reals less the
   logarithm of its exponentials' sum is the same with the row's maximum taken out first. -/
module

public import proofs.«01_k».proof.Proof.Closed

@[expose] public section

noncomputable section

namespace Cert.Proof.Closed

open Cert.KernelIdeal
open Idealize.ShloMosaic

/-- An extended real that is a real. -/
def Real' (x : EReal) : Prop := ∃ r : ℝ, x = (r : EReal)

theorem Real'.add {x y : EReal} (hx : Real' x) (hy : Real' y) : Real' (x + y) := by
  obtain ⟨a, rfl⟩ := hx; obtain ⟨b, rfl⟩ := hy; exact ⟨a + b, (EReal.coe_add a b).symm⟩
theorem Real'.mul {x y : EReal} (hx : Real' x) (hy : Real' y) : Real' (x * y) := by
  obtain ⟨a, rfl⟩ := hx; obtain ⟨b, rfl⟩ := hy; exact ⟨a * b, (EReal.coe_mul a b).symm⟩
theorem Real'.max {x y : EReal} (hx : Real' x) (hy : Real' y) : Real' (max x y) := by
  rcases max_choice x y with h | h <;> rw [h] <;> assumption
theorem Real'.zero : Real' 0 := ⟨0, rfl⟩
theorem Real'.sum {ι : Type} (s : Finset ι) {f : ι → EReal} (h : ∀ i, Real' (f i)) : Real' (∑ i ∈ s, f i) := by
  classical
  induction s using Finset.induction_on with
  | empty => exact ⟨0, by simp⟩
  | insert a s ha ih => rw [Finset.sum_insert ha]; exact (h a).add ih

/-- A sum of reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum of a row is one of its entries. -/
theorem fold_mem (l : Fin 16 → EReal) : ∃ i, Finset.univ.fold max ⊥ l = l i := by
  obtain ⟨i, -, h⟩ := Finset.exists_mem_eq_sup (Finset.univ : Finset (Fin 16)) ⟨0, Finset.mem_univ _⟩ l
  exact ⟨i, h⟩

theorem log_pos {s : ℝ} (h : 0 < s) : Ideal.log (s : EReal) = (Real.log s : ℝ) := by
  show (if s ≤ 0 then (⊥ : EReal) else (Real.log s : ℝ)) = _
  rw [if_neg (not_le.2 h)]

theorem shifted_eq_normed (l : Fin 16 → EReal) (h : ∀ k, Real' (l k)) (n : Fin 16) : shifted l n = normed l n := by
  obtain ⟨i, hi⟩ := fold_mem l
  choose r hr using h
  have el : l = fun k => (r k : EReal) := funext hr
  subst el
  unfold shifted normed
  rw [hi]
  have e1 : (∑ k : Fin 16, Ideal.exp ((r k : EReal) - (r i : EReal))) = ((∑ k : Fin 16, Real.exp (r k - r i) : ℝ) : EReal) := by
    rw [← sum_coe]; exact Finset.sum_congr rfl fun k _ => by rw [← EReal.coe_sub]; rfl
  have e2 : (∑ k : Fin 16, Ideal.exp (r k : EReal)) = ((∑ k : Fin 16, Real.exp (r k) : ℝ) : EReal) := by
    rw [← sum_coe]; exact Finset.sum_congr rfl fun k _ => rfl
  have p1 : 0 < ∑ k : Fin 16, Real.exp (r k - r i) := Finset.sum_pos (fun k _ => Real.exp_pos _) ⟨0, Finset.mem_univ _⟩
  have e3 : ∑ k : Fin 16, Real.exp (r k) = Real.exp (r i) * ∑ k : Fin 16, Real.exp (r k - r i) := by
    rw [Finset.mul_sum]; exact Finset.sum_congr rfl fun k _ => by rw [← Real.exp_add]; congr 1; ring
  have p2 : 0 < ∑ k : Fin 16, Real.exp (r k) := Finset.sum_pos (fun k _ => Real.exp_pos _) ⟨0, Finset.mem_univ _⟩
  rw [e1, e2, log_pos p1, log_pos p2, e3, Real.log_mul (Real.exp_pos _).ne' p1.ne', Real.log_exp, ← EReal.coe_add]

/-- From finite arrays, every class score is a real. -/
theorem score_real (x : S10000x128.Idx → EReal) (a1 a2 : S10000x10000.Idx → EReal) (w1 : S128x64.Idx → EReal) (b1 : Fin 64 → EReal)
    (w2 : S64x16.Idx → EReal) (b2 : Fin 16 → EReal) (hx : ∀ i, Real' (x i)) (h1 : ∀ i, Real' (a1 i)) (h2 : ∀ i, Real' (a2 i))
    (hw1 : ∀ i, Real' (w1 i)) (hb1 : ∀ i, Real' (b1 i)) (hw2 : ∀ i, Real' (w2 i)) (hb2 : ∀ i, Real' (b2 i)) (i : Fin 10000) (n : Fin 16) :
    Real' (score a2 (mid (hid a1 (feat x w1) b1) w2) b2 i n) :=
  (Real'.sum _ fun k => (h2 _).mul (Real'.sum _ fun q => (((Real'.sum _ fun j => (h1 _).mul (Real'.sum _ fun l => (hx _).mul (hw1 _))).add (hb1 _)).max Real'.zero).mul (hw2 _))).add (hb2 _)

end Cert.Proof.Closed

end
-- ==== Proof.Value.lean ====
/- What the run leaves in the result buffer over the extended reals: the closed form of the arguments. -/
module

public import proofs.«01_k».proof.Proof.Reals
public import Idealize.ShloMosaic.Lib.Pipeline.ValueKit.Geometry

@[expose] public section

set_option maxRecDepth 16384

noncomputable section

namespace Cert.Proof.Closed

open Cert.KernelIdeal Cert.KernelIdeal.Gen Cert.Proof.Stream
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-! ## The biases as the region finds them -/

theorem V_bias1 : V m c main_call0_v0 = shapeCast S1x64 (m ((c : Thread nD τ).loc main_arg4)) shapeCasts_S64_S1x64 := by
  unfold V
  simp only [hostOps0]
  after_results
  rfl

theorem V_bias2 : V m c main_call0_v1 = shapeCast S1x16 (m ((c : Thread nD τ).loc main_arg6)) shapeCasts_S16_S1x16 := by
  unfold V
  simp only [hostOps0]
  after_results
  rfl

/-! ## The windows' blocks are the whole arrays -/

theorem iblk_0 (t : Fin cfg0.N) (i : Fin 128) (j : Fin 64) : iblk m c 0 t (ix2 i j) = m ((c : Thread nD τ).loc main_arg3) (ix2 i j) := by
  refine Eq.trans ?_ (congrFun (V_main_arg3 m c) (ix2 i j))
  unfold iblk
  refine congrArg (V m c main_arg3) (funext fun a => Fin.ext ?_)
  match a with
  | ⟨0, _⟩ => show 0 + 1 * i.val = i.val; omega
  | ⟨1, _⟩ => show 0 + 1 * j.val = j.val; omega

theorem iblk_2 (t : Fin cfg0.N) (i : Fin 64) (j : Fin 16) : iblk m c 2 t (ix2 i j) = m ((c : Thread nD τ).loc main_arg5) (ix2 i j) := by
  refine Eq.trans ?_ (congrFun (V_main_arg5 m c) (ix2 i j))
  unfold iblk
  refine congrArg (V m c main_arg5) (funext fun a => Fin.ext ?_)
  match a with
  | ⟨0, _⟩ => show 0 + 1 * i.val = i.val; omega
  | ⟨1, _⟩ => show 0 + 1 * j.val = j.val; omega

theorem iblk_1 (t : Fin cfg0.N) (q : Fin 64) : iblk m c 1 t (ix2 0 q) = m ((c : Thread nD τ).loc main_arg4) (ix1 q) := by
  have e : shapeCast S1x64 (m ((c : Thread nD τ).loc main_arg4)) shapeCasts_S64_S1x64 (ix2 0 q) = m ((c : Thread nD τ).loc main_arg4) (ix1 q) := by
    simp only [pointwise]
  refine Eq.trans ?_ ((congrFun (V_bias1 m c) (ix2 0 q)).trans e)
  unfold iblk
  refine congrArg (V m c main_call0_v0) (funext fun a => Fin.ext ?_)
  match a with
  | ⟨0, _⟩ => rfl
  | ⟨1, _⟩ => show 0 + 1 * q.val = q.val; omega

theorem iblk_3 (t : Fin cfg0.N) (q : Fin 16) : iblk m c 3 t (ix2 0 q) = m ((c : Thread nD τ).loc main_arg6) (ix1 q) := by
  have e : shapeCast S1x16 (m ((c : Thread nD τ).loc main_arg6)) shapeCasts_S16_S1x16 (ix2 0 q) = m ((c : Thread nD τ).loc main_arg6) (ix1 q) := by
    simp only [pointwise]
  refine Eq.trans ?_ ((congrFun (V_bias2 m c) (ix2 0 q)).trans e)
  unfold iblk
  refine congrArg (V m c main_call0_v1) (funext fun a => Fin.ext ?_)
  match a with
  | ⟨0, _⟩ => rfl
  | ⟨1, _⟩ => show 0 + 1 * q.val = q.val; omega

/-! ## The result -/

/-- The class scores of the arguments in memory. -/
abbrev scores : Fin 10000 → Fin 16 → EReal :=
  score (m ((c : Thread nD τ).loc main_arg2))
    (mid (hid (m ((c : Thread nD τ).loc main_arg1)) (feat (m ((c : Thread nD τ).loc main_arg0)) (m ((c : Thread nD τ).loc main_arg3)))
      (fun q => m ((c : Thread nD τ).loc main_arg4) (ix1 q))) (m ((c : Thread nD τ).loc main_arg5)))
    (fun k => m ((c : Thread nD τ).loc main_arg6) (ix1 k))

theorem outAt_at (t : Fin cfg0.N) (i : Fin 10000) (n : Fin 16) : outAt m c t (ix2 i n) = shifted (scores m c i) n := by
  have r0 : (st0_0 t).view.read (Elt Ideal) ((st0_0 t).view.rep (iblk m c 0 t)) = m ((c : Thread nD τ).loc main_arg3) :=
    (View.read_rep _ _).trans (funext fun y => by rw [← ix2_eta y]; exact iblk_0 m c t (y 0) (y 1))
  have r2 : (st0_2 t).view.read (Elt Ideal) ((st0_2 t).view.rep (iblk m c 2 t)) = m ((c : Thread nD τ).loc main_arg5) :=
    (View.read_rep _ _).trans (funext fun y => by rw [← ix2_eta y]; exact iblk_2 m c t (y 0) (y 1))
  have r1 : (fun q : Fin 64 => (st0_1 t).view.read (Elt Ideal) ((st0_1 t).view.rep (iblk m c 1 t)) (ix2 0 q)) = fun q => m ((c : Thread nD τ).loc main_arg4) (ix1 q) :=
    funext fun q => (congrFun (View.read_rep _ _) (ix2 0 q)).trans (iblk_1 m c t q)
  have r3 : (fun q : Fin 16 => (st0_3 t).view.read (Elt Ideal) ((st0_3 t).view.rep (iblk m c 3 t)) (ix2 0 q)) = fun q => m ((c : Thread nD τ).loc main_arg6) (ix1 q) :=
    funext fun q => (congrFun (View.read_rep _ _) (ix2 0 q)).trans (iblk_3 m c t q)
  unfold outAt
  rw [oVal_at, r0, r1, r2, r3, V_main_arg0, V_main_arg1, V_main_arg2]

/-- The result buffer's final contents. -/
theorem result : (dats m 0 c).arrAt (4 : Fin 5) cfg0.N = outAt m c t0_0 := by
  refine (dats m 0 c).arrAt_eq_of_after_last (4 : Fin 5) t0_0 (by decide +kernel) (outAt m c t0_0) ?_
  intro j
  rfl

end Cert.Proof.Closed

end
-- ==== Proof.Reference.lean ====
/- The reference's result over the extended reals, read at an index; and what the precondition says of an array. -/
module

public import proofs.«01_k».proof.Proof.Gen.ReferenceIdeal.Run
public import proofs.«01_k».proof.Proof.Reals
public import proofs.«01_k».proof.Pre_finite

@[expose] public section

noncomputable section

namespace Cert.Proof.Closed

open Cert.ReferenceIdeal Cert.ReferenceIdeal.Gen
open Idealize.ShloMosaic Idealize.ShloMosaic.TcCoe

section Reference
variable (x : FVec Ideal S10000x128 .f32) (a1 a2 : FVec Ideal S10000x10000 .f32) (w1 : FVec Ideal S128x64 .f32)
  (b1 : FVec Ideal S64 .f32) (w2 : FVec Ideal S64x16 .f32) (b2 : FVec Ideal S16 .f32)

/-- The reference's class scores. -/
def refScore : FVec Ideal S10000x16 .f32 :=
  addf (Host.dotGeneral dot_S10000x10000_S10000x16_S10000x16_1_0_0_1_n_n none a2 (Host.dotGeneral dot_S10000x64_S64x16_S10000x16_1_0_0_1_n_n none (maximumf (addf (Host.dotGeneral dot_S10000x10000_S10000x64_S10000x64_1_0_0_1_n_n none a1 (Host.dotGeneral dot_S10000x128_S128x64_S10000x64_1_0_0_1_n_n none x w1)) (broadcastInDim S10000x64 ![0, 1] bcast_S1x64_S10000x64_0_1 (broadcastInDim S1x64 ![1] bcast_S64_S1x64_1 b1))) (broadcastInDim S10000x64 ![] bcast_S_S10000x64 (constant S_ .f32 0x00000000#32))) w2)) (broadcastInDim S10000x16 ![0, 1] bcast_S1x16_S10000x16_0_1 (broadcastInDim S1x16 ![1] bcast_S16_S1x16_1 b2))

/-- The reference's result, from its class scores. -/
def refOut (s : FVec Ideal S10000x16 .f32) : FVec Ideal S10000x16 .f32 :=
  subf s (broadcastInDim S10000x16 ![0, 1] bcast_S10000x1_S10000x16_0_1 (Host.log (broadcastInDim S10000x1 ![0] bcast_S10000_S10000x1_0 (Host.reduceAdd (Host.exp s) (constant S_ .f32 0x00000000#32) reducesTo_S10000x16_S10000_d1 h_S_))))

theorem refScore_at (i : Fin 10000) (n : Fin 16) :
    refScore x a1 a2 w1 b1 w2 b2 (ix2 i n)
      = score a2 (mid (hid a1 (feat x w1) (fun q => b1 (ix1 q))) w2) (fun k => b2 (ix1 k)) i n := by
  unfold refScore score mid hid feat
  simp only [pointwise, zero_add]
  rfl

theorem refOut_at (s : FVec Ideal S10000x16 .f32) (i : Fin 10000) (n : Fin 16) :
    refOut s (ix2 i n) = normed (fun k => s (ix2 i k)) n := by
  unfold refOut normed
  simp only [pointwise, zero_add]
  rfl

end Reference

/-! ## The precondition -/

theorem bits_top : Ideal.ofBits .f32 0x7F800000#32 = ⊤ := by simp [Ideal.ofBits, Ideal.ieee]

/-- An extended real whose absolute value is below infinity is a real. -/
theorem real_of_lt (x : EReal) (h : max x (-x) < ⊤) : Real' x := by
  induction x using EReal.rec with
  | bot => simp at h
  | top => simp at h
  | coe r => exact ⟨r, rfl⟩

theorem of_bit {p : Prop} [Decidable p] (h : BitVec.ofBool (decide p) = 1#1) : p := by
  by_contra hn
  rw [decide_eq_false hn] at h
  exact absurd h (by decide)

/-- An array that passes the test `|x| < ∞` at every entry holds reals. -/
theorem real_of_test {s : Shape} (d) (hb : (⟨0, ![]⟩ : Shape).BroadcastsInDim s d) (x : FVec Ideal s .f32)
    (h : cmpf .olt (Host.absf x) (broadcastInDim s d hb (constant ⟨0, ![]⟩ .f32 0x7F800000#32)) = fun _ => 1#1) (i : s.Idx) : Real' (x i) := by
  have hi := congrFun h i
  simp only [pointwise, bits_top] at hi
  exact real_of_lt _ (of_bit hi)

end Cert.Proof.Closed

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value
public import proofs.«01_k».proof.Proof.Reference

@[expose] public section

noncomputable section

namespace Cert.Proof

open Idealize.ShloMosaic Idealize.ShloMosaic.TcCoe Idealize.SL.Sem
open Cert.KernelIdeal Cert.KernelIdeal.Gen Cert.Proof.Stream Cert.Proof.Closed

/-- From finite arguments the kernel's result is the reference's. -/
theorem values_agree [Cert.Pre_finite.Facts] (m : (ℓ : Loc nD τ sig) → Buf (Elt Ideal) ℓ) (h : Cert.Pre_KernelIdeal_finite m) (c : Dev nD) (t : Fin cfg0.N) :
    outAt m c t = refOut (refScore (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))) := by
  obtain ⟨h0, h1, h2, h3, h4, h5, h6⟩ := h c
  funext y
  rw [← ix2_eta y]
  refine (outAt_at m c t (y 0) (y 1)).trans ((shifted_eq_normed _ (fun k => ?_) _).trans ?_)
  · exact score_real _ _ _ _ _ _ _ (real_of_test _ _ _ h0) (real_of_test _ _ _ h1) (real_of_test _ _ _ h2) (real_of_test _ _ _ h3)
      (fun q => real_of_test _ _ _ h4 (ix1 q)) (real_of_test _ _ _ h5) (fun q => real_of_test _ _ _ h6 (ix1 q)) (y 0) k
  · refine Eq.trans ?_ (refOut_at _ (y 0) (y 1)).symm
    exact congrArg (fun l => normed l (y 1)) (funext fun k => (refScore_at _ _ _ _ _ _ _ (y 0) k).symm)

/-- From finite arguments, equal on both sides, kernel and reference end with the same result and their arguments unchanged. -/
theorem algebraic [Cert.Pre_finite.Facts] : Cert.algebraic_KernelIdeal_ReferenceIdeal_pre_finite := by
  intro m ρ m' ρ' hpre hargs
  refine ⟨fun c => outAt m c t0_0, ?_, ?_⟩
  · exact (θ_run Cert.KernelIdeal.defs _ _).mono (fun r h c => ⟨((h.1 c).1 4).trans (result m c), args_kept m r h.1 c⟩) (run_main m ρ)
  · refine (θ_run Cert.ReferenceIdeal.defs _ _).mono (fun r h c => ⟨(h c).1.trans ?_, (h c).2⟩) (Cert.ReferenceIdeal.Value.run m' ρ')
    obtain ⟨e0, e1, e2, e3, e4, e5, e6⟩ := hargs c
    rw [e0, e1, e2, e3, e4, e5, e6]
    exact (values_agree m hpre c t0_0).symm

/-- The five claims together. -/
theorem claim : Cert.Claim := ⟨Cert.Kernel.Gen.facts, Cert.KernelIdeal.Gen.facts, Cert.ReferenceIdeal.Gen.facts, finite_facts,
  frame_kernel, frame_ideal, fun m ρ _ => frame_ideal m ρ trivial, frame_reference, fun m ρ _ => frame_reference m ρ trivial, trivial,
  letI := finite_facts; algebraic⟩

end Cert.Proof

end
